-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_x_finite_KernelIdeal [hPre_x_finite_KernelIdeal : Cert.Pre_x_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_x_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_x_finite_ReferenceIdeal [hPre_x_finite_ReferenceIdeal : Cert.Pre_x_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_x_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_x_finite_KernelIdeal [hKernelIdeal : Cert.KernelIdeal.Facts] [hPre_x_finite_KernelIdeal : Cert.Pre_x_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_x_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_x_finite_ReferenceIdeal [hReferenceIdeal : Cert.ReferenceIdeal.Facts] [hPre_x_finite_ReferenceIdeal : Cert.Pre_x_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_x_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_x_finite_KernelIdeal [hKernelIdeal : Cert.KernelIdeal.Facts] [hReferenceIdeal : Cert.ReferenceIdeal.Facts] [hPre_x_finite_KernelIdeal : Cert.Pre_x_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_x_finite_KernelIdeal m →
    (∀ c : Dev Cert.KernelIdeal.nD,
      m ((c.tc : Thread Cert.KernelIdeal.nD Cert.KernelIdeal.τ).loc Cert.KernelIdeal.main_arg0) = Layout.blockN ⟨2, ![4096, 1024]⟩ ⟨2, ![8192, 2048]⟩ (Layout.meshBlock [2, 2] ![[0], [1]] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨1, ![1024]⟩ ⟨1, ![2048]⟩ (Layout.meshBlock [2, 2] ![[1]] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨1, ![1024]⟩ ⟨1, ![2048]⟩ (Layout.meshBlock [2, 2] ![[1]] c) (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = Layout.blockN ⟨2, ![4096, 1024]⟩ ⟨2, ![8192, 2048]⟩ (Layout.meshBlock [2, 2] ![[0], [1]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v17) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_x_finite_KernelIdeal : Cert.Pre_x_finite_KernelIdeal.Facts) (hPre_x_finite_ReferenceIdeal : Cert.Pre_x_finite_ReferenceIdeal.Facts),
    quiescent_Kernel (hKernel := hKernel)
    ∧ quiescent_KernelIdeal (hKernelIdeal := hKernelIdeal)
    ∧ quiescent_KernelIdeal_pre_x_finite_KernelIdeal (hKernelIdeal := hKernelIdeal) (hPre_x_finite_KernelIdeal := hPre_x_finite_KernelIdeal)
    ∧ quiescent_ReferenceIdeal (hReferenceIdeal := hReferenceIdeal)
    ∧ quiescent_ReferenceIdeal_pre_x_finite_ReferenceIdeal (hReferenceIdeal := hReferenceIdeal) (hPre_x_finite_ReferenceIdeal := hPre_x_finite_ReferenceIdeal)
    ∧ preserves_Kernel_KernelIdeal
    ∧ algebraic_KernelIdeal_ReferenceIdeal_pre_x_finite_KernelIdeal (hKernelIdeal := hKernelIdeal) (hReferenceIdeal := hReferenceIdeal) (hPre_x_finite_KernelIdeal := hPre_x_finite_KernelIdeal)
-- ==== Pre_x_finite_KernelIdeal.lean ====
abbrev S4096x1024 : Shape := ⟨2, ![4096, 1024]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)

variable [Facts]

def fn {F : FTy → Type} [FloatOps F] (main_arg0 : FVec F S4096x1024 .f32) (main_arg1 : FVec F S1024 .f32) (main_arg2 : FVec F S1024 .f32) : IVec S4096x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  main_v2
-- ==== Pre_x_finite_ReferenceIdeal.lean ====
abbrev S8192x2048 : Shape := ⟨2, ![8192, 2048]⟩
abbrev S2048 : Shape := ⟨1, ![2048]⟩
abbrev S_ : Shape := ⟨0, ![]⟩

class Facts : Prop where
  bcast_S_S8192x2048 : S_.BroadcastsInDim S8192x2048 (![] : Fin 0 → Fin S8192x2048.rank)

variable [Facts]

def fn {F : FTy → Type} [FloatOps F] (main_arg0 : FVec F S8192x2048 .f32) (main_arg1 : FVec F S2048 .f32) (main_arg2 : FVec F S2048 .f32) : IVec S8192x2048 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  main_v2
-- ==== Kernel.lean ====
abbrev S4096x1024 : Shape := ⟨2, ![4096, 1024]⟩
abbrev S1024 : Shape := ⟨1, ![1024]⟩
abbrev S1x1024 : Shape := ⟨2, ![1, 1024]⟩
abbrev S2x1024 : Shape := ⟨2, ![2, 1024]⟩
abbrev S2x512x8 : Shape := ⟨3, ![2, 512, 8]⟩
abbrev S8 : Shape := ⟨1, ![8]⟩
abbrev S_ : Shape := ⟨0, ![]⟩
abbrev S2 : Shape := ⟨1, ![2]⟩
abbrev S1 : Shape := ⟨1, ![1]⟩
abbrev S512x1024 : Shape := ⟨2, ![512, 1024]⟩
abbrev S512 : Shape := ⟨1, ![512]⟩
abbrev S512x1 : Shape := ⟨2, ![512, 1]⟩
abbrev S1x512x1 : Shape := ⟨3, ![1, 512, 1]⟩
abbrev S1x512x8 : Shape := ⟨3, ![1, 512, 8]⟩
abbrev S512x8 : Shape := ⟨2, ![512, 8]⟩

abbrev nBuf : Space → Nat
  | .hbm => 6
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024, .f32⟩
  | .hbm, ⟨3, _⟩ => ⟨S1x1024, .f32⟩
  | .hbm, ⟨4, _⟩ => ⟨S1x1024, .f32⟩
  | .hbm, ⟨5, _⟩ => ⟨S4096x1024, .f32⟩
  | .local _ .vmem, ⟨0, _⟩ => ⟨S4096x1024, .f32⟩
  | .local _ .vmem, ⟨1, _⟩ => ⟨S4096x1024, .f32⟩
  | .local _ .vmem, ⟨2, _⟩ => ⟨S2x1024, .f32⟩
  | .local _ .vmem, ⟨3, _⟩ => ⟨S2x512x8, .f32⟩
  | .local _ .vmem, ⟨4, _⟩ => ⟨S2x512x8, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  (ofTc nBuf bufTy 1 14 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_sem0_0 : DmaSem sig := 0
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_40 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_39 : BitVec 32 := 2#32
  let v44 : BitVec 32 := Scalar.muli v2 c2_i32_39
  let v45 : BitVec 32 := Scalar.addi c0_i32_40 v44
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_41 : BitVec 32 := 1#32
  let v46 : BitVec 32 := Scalar.muli v6 c1_i32_41
  let v47 : BitVec 32 := Scalar.addi v45 v46
  v47.toNat
def k0_dev2 (d0 : Dev nD) : Nat :=
  let c0_i32_96 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_95 : BitVec 32 := 2#32
  let v112 : BitVec 32 := Scalar.muli v2 c2_i32_95
  let v113 : BitVec 32 := Scalar.addi c0_i32_96 v112
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_97 : BitVec 32 := 1#32
  let v114 : BitVec 32 := Scalar.muli v6 c1_i32_97
  let v115 : BitVec 32 := Scalar.addi v113 v114
  v115.toNat
def k0_dev3 (d0 : Dev nD) : Nat :=
  let c0_i32_163 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_162 : BitVec 32 := 2#32
  let v188 : BitVec 32 := Scalar.muli v2 c2_i32_162
  let v189 : BitVec 32 := Scalar.addi c0_i32_163 v188
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_164 : BitVec 32 := 1#32
  let v190 : BitVec 32 := Scalar.muli v6 c1_i32_164
  let v191 : BitVec 32 := Scalar.addi v189 v190
  v191.toNat
abbrev stage0_0 : Fin 1 → Memref sig .tc .vmem S4096x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 47
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .i32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S8192, .f32⟩
  | .hbm, ⟨24, _⟩ => ⟨S8192x1, .f32⟩
  | .hbm, ⟨25, _⟩ => ⟨S8192x1, .f32⟩
  | .hbm, ⟨26, _⟩ => ⟨S8192x1, .f32⟩
  | .hbm, ⟨27, _⟩ => ⟨S_, .f32⟩
  | .hbm, ⟨28, _⟩ => ⟨S_, .i1⟩
  | .hbm, ⟨29, _⟩ => ⟨S_, .f32⟩
  | .hbm, ⟨30, _⟩ => ⟨S_, .f32⟩
  | .hbm, ⟨31, _⟩ => ⟨S8192x1, .f32⟩
  | .hbm, ⟨32, _⟩ => ⟨S8192x1, .f32⟩
  | .hbm, ⟨33, _⟩ => ⟨S8192x2048, .f32⟩
  | .hbm, ⟨34, _⟩ => ⟨S8192x2048, .f32⟩
  | .hbm, ⟨35, _⟩ => ⟨S1x2048, .f32⟩
  | .hbm, ⟨36, _⟩ => ⟨S8192x2048, .f32⟩
  | .hbm, ⟨37, _⟩ => ⟨S8192x2048, .f32⟩
  | .hbm, ⟨38, _⟩ => ⟨S_, .f32⟩
  | .hbm, ⟨39, _⟩ => ⟨S8192x1, .f32⟩
  | .hbm, ⟨40, _⟩ => ⟨S8192x1, .f32⟩
  | .hbm, ⟨41, _⟩ => ⟨S8192x1, .f32⟩
  | .hbm, ⟨42, _⟩ => ⟨S8192x2048, .f32⟩
  | .hbm, ⟨43, _⟩ => ⟨S8192x2048, .f32⟩
  | .hbm, ⟨44, _⟩ => ⟨S1x2048, .f32⟩
  | .hbm, ⟨45, _⟩ => ⟨S8192x2048, .f32⟩
  | .hbm, ⟨46, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_cst : Ref sig .tc := ⟨.hbm, 10, rfl⟩
abbrev main_call0_v0 : Ref sig .tc := ⟨.hbm, 11, rfl⟩
abbrev main_call0_v1 : Ref sig .tc := ⟨.hbm, 12, rfl⟩
abbrev main_call0_cst_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_cst_1 : Ref sig .tc := ⟨.hbm, 20, rfl⟩
abbrev main_call0_v8 : Ref sig .tc := ⟨.hbm, 21, rfl⟩
abbrev main_call0_cst_2 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_v12 : Ref sig .tc := ⟨.hbm, 26, rfl⟩
abbrev main_call0_cst_3 : Ref sig .tc := ⟨.hbm, 27, rfl⟩
abbrev main_call0_v13 : Ref sig .tc := ⟨.hbm, 28, rfl⟩
abbrev main_call0_cst_4 : Ref sig .tc := ⟨.hbm, 29, rfl⟩
abbrev main_call0_call0_v0 : Ref sig .tc := ⟨.hbm, 30, rfl⟩
abbrev main_call0_call0_v1 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_cst_1 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩

abbrev nD : Nat := 1
abbrev τ : Topo := Topo.v7x

variable {F : FTy → Type} [FloatOps F]
-- ==== Proof.Spec.lean ====
/-
  What the kernel computes on one device, as functions of the blocks it is given.

  A device's block of `x` has 4096 rows of 1024 columns; the kernel takes it in eight chunks of 512 rows. Of every row it
  forms the sum and the sum of squares over its own 1024 columns and puts them in a statistics buffer: chunk `k`'s sums are
  column `2 (k mod 4)` of half `k / 4`, its sums of squares the column after it. A row's block of the result is then made
  from the row, the two rows of `gamma` and `beta`, the device's own statistics and its partner's.
-/
module

public import proofs.«01_k».proof.Proof.Gen.KernelIdeal.Skeleton
public import Idealize.ShloMosaic.Lib.ValueIdxCore

@[expose] public section

noncomputable section

namespace Cert.KernelIdeal.Swap

open Cert.KernelIdeal Cert.KernelIdeal.Gen
open Idealize.ShloMosaic Idealize.ShloMosaic.ValueIdx

variable {F : FTy → Type} [FloatOps F]

/-- Contents of a statistics buffer. -/
abbrev Stats (F : FTy → Type) : Type := Vec F S2x512x8 .f32

/-- Chunk `k` of a block of `x`: its rows `512 k … 512 k + 511`. -/
def xChunk (X : Vec F S4096x1024 .f32) (k : Fin 8) : Vec F S512x1024 .f32 :=
  fun i => X (ix2 ⟨512 * k.val + (i 0).val, by have : (i 0).val < 512 := (i 0).isLt; omega⟩ ⟨(i 1).val, (i 1).isLt⟩)

/-- Chunk `k`'s row sums (`odd = false`) or sums of squares (`odd = true`), as the kernel stores them. -/
def column (X : Vec F S4096x1024 .f32) (k : Fin 8) (odd : Bool) : Vec F S1x512x1 .f32 :=
  if odd then k0_pay2 (xChunk X k) else k0_pay1 (xChunk X k)

/-- The statistics of a block of `x`. -/
def stats (X : Vec F S4096x1024 .f32) : Stats F :=
  fun i => column X ⟨4 * (i 0).val + (i 2).val / 2, by have : (i 0).val < 2 := (i 0).isLt; have : (i 2).val < 8 := (i 2).isLt; omega⟩
    (decide ((i 2).val % 2 = 1)) (ix3 0 ⟨(i 1).val, (i 1).isLt⟩ 0)

/-- Column `j` of half `h` of a statistics buffer. -/
def col (S : Stats F) (h : Fin 2) (j : Fin 8) : Vec F S1x512x1 .f32 := fun i => S (ix3 h ⟨(i 1).val, (i 1).isLt⟩ j)

/-- Chunk `k` of the result, from the block of `x`, the two rows, the own statistics `S` and the partner's `P`. -/
def outChunk (X : Vec F S4096x1024 .f32) (G B : Vec F S1x1024 .f32) (S P : Stats F) (k : Fin 8) : Vec F S512x1024 .f32 :=
  k0_pay33 (col S ⟨k.val / 4, by omega⟩ ⟨2 * (k.val % 4), by omega⟩) (col P ⟨k.val / 4, by omega⟩ ⟨2 * (k.val % 4), by omega⟩)
    (col S ⟨k.val / 4, by omega⟩ ⟨2 * (k.val % 4) + 1, by omega⟩) (col P ⟨k.val / 4, by omega⟩ ⟨2 * (k.val % 4) + 1, by omega⟩) (xChunk X k) G B

/-- The device's block of the result. -/
def out (X : Vec F S4096x1024 .f32) (G B : Vec F S1x1024 .f32) (S P : Stats F) : Vec F S4096x1024 .f32 :=
  fun i => outChunk X G B S P ⟨(i 0).val / 512, by have : (i 0).val < 4096 := (i 0).isLt; omega⟩
    (ix2 ⟨(i 0).val % 512, Nat.mod_lt _ (by decide)⟩ ⟨(i 1).val, (i 1).isLt⟩)

end Cert.KernelIdeal.Swap

end
-- ==== Proof.Protocol.lean ====
/-
  The protocol of the kernel on one device `c`, whose partner `peer c` is the other device of its mesh row.

  Five semaphore cells a device are shared between devices, or carry a copy to another device:

  * the barrier cell: `peer c` signals it one unit, `c` waits for one unit before its first remote copy. With the unit
    come the two halves of `peer c`'s receive buffer, at whatever they hold, and that both its receive cells are fresh.
  * receive cell `h` (`h = 0, 1`): `peer c`'s copy of half `h` of its statistics pays it, `c` waits for it. With the
    units comes half `h` of `c`'s own receive buffer, now holding the statistics of `peer c`'s rows.
  * send cell `h`: `c`'s own copy pays it when the source has been read, `c` waits for it at the end. With the units
    comes back the share of half `h` of the statistics buffer that the copy borrowed: `c` keeps the other share and reads
    the statistics while the copy is in flight.

  Each cell has one round. The nine other DMA semaphores (`in_sems`, `gb_sem`) complete copies inside the device, each
  issued and waited for by `c` alone, and need no schedule.

  At launch `c` owes `peer c` the units of its two receive cells and the barrier unit. It pays the barrier unit before its
  first wait on a shared cell and the copies before its waits for the partner's copies, so barrier cells lie at level 1,
  receive cells at level 2 and all others at level 0.
-/
module

public import proofs.«01_k».proof.Proof.Spec
public import proofs.«01_k».proof.Proof.Gen.KernelIdeal.Launch
public import proofs.«01_k».proof.Proof.Gen.KernelIdeal.Frame
public import proofs.«01_k».proof.Proof.Gen.KernelIdeal.Points
public import Idealize.ShloMosaic.Lib.Pipeline.Launch
public import Idealize.ShloMosaic.Lib.Pipeline.Kit
public import Idealize.ShloMosaic.Lib.Rounds
public import Idealize.ShloMosaic.Lib.Transfers
public import Idealize.ShloMosaic.Lib.Tactic

@[expose] public section

noncomputable section

namespace Cert.KernelIdeal.Swap

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The pipeline library's algebra, the protocol's, and the counters the copies inside a device draw from. -/
abbrev UU : Type := UR sig nD τ × (UR sig nD τ × Counters)

local notation "𝕄" => MT nD τ sig Unit (Elt F) ℕ UU ℕ

abbrev EP : Emb (UR sig nD τ) (MT nD τ sig Unit (Elt F) ℕ UU ℕ) := embL
abbrev ER : Emb (UR sig nD τ) (MT nD τ sig Unit (Elt F) ℕ UU ℕ) :=
  (Emb.inl : Emb (UR sig nD τ) (UR sig nD τ × Counters)).trans embR

instance ER_landsIn : (ER (F := F)).LandsIn (upEmb : UEmb _ 𝕄) := by unfold ER; infer_instance

/-! ## The partner -/

/-- The other device of `c`'s mesh row. -/
def peer (c : Dev nD) : Dev nD := ⟨(2 * (c.val / 2) + 1) - (c.val % 2), by have := c.isLt; revert this; generalize c.val = v; decide +revert⟩

theorem peer_peer (c : Dev nD) : peer (peer c) = c := by revert c; decide

theorem dev1_eq (c : Dev nD) : (⟨k0_dev1 c, k0_dev1_lt c⟩ : Dev nD) = peer c := Fin.ext (k0_dev1_eq c)
theorem dev2_eq (c : Dev nD) : (⟨k0_dev2 c, k0_dev2_lt c⟩ : Dev nD) = peer c := Fin.ext (k0_dev2_eq c)
theorem dev3_eq (c : Dev nD) : (⟨k0_dev3 c, k0_dev3_lt c⟩ : Dev nD) = peer c := Fin.ext (k0_dev3_eq c)

/-- The exchange as a permutation of the devices. -/
def swap : Dev nD ≃ Dev nD := ⟨peer, peer, peer_peer, peer_peer⟩

/-! ## Buffers, halves, cells -/

/-- Half 0 and half 1 of the statistics buffer, as the copies name them. -/
abbrev sM0 : Memref sig .tc .vmem S512x8 .f32 :=
  ((Memref.whole cc0_scratch2).slice (Rect.unit (s := S2x512x8) ![0, 0, 0] S1x512x8.size inb_S2x512x8_S1x512x8_0_0_0) (fun _ => rfl)).squeeze S512x8 squeezes_S1x512x8_S512x8
abbrev sM1 : Memref sig .tc .vmem S512x8 .f32 :=
  ((Memref.whole cc0_scratch2).slice (Rect.unit (s := S2x512x8) ![1, 0, 0] S1x512x8.size inb_S2x512x8_S1x512x8_1_0_0) (fun _ => rfl)).squeeze S512x8 squeezes_S1x512x8_S512x8
/-- Half 0 and half 1 of the receive buffer. -/
abbrev rM0 : Memref sig .tc .vmem S512x8 .f32 :=
  ((Memref.whole cc0_scratch3).slice (Rect.unit (s := S2x512x8) ![0, 0, 0] S1x512x8.size inb_S2x512x8_S1x512x8_0_0_0) (fun _ => rfl)).squeeze S512x8 squeezes_S1x512x8_S512x8
abbrev rM1 : Memref sig .tc .vmem S512x8 .f32 :=
  ((Memref.whole cc0_scratch3).slice (Rect.unit (s := S2x512x8) ![1, 0, 0] S1x512x8.size inb_S2x512x8_S1x512x8_1_0_0) (fun _ => rfl)).squeeze S512x8 squeezes_S1x512x8_S512x8

/-- Half 0 and half 1 of the statistics buffer of device `c`, at share `q` and contents `f`. -/
abbrev s0Pts (q : PosShare TreeShare) (c : Dev nD) (f : Stats F) : sProp 𝕄 := sM0.view.loc (c : Thread nD τ) ↦[sM0.view.set]{q} f
abbrev s1Pts (q : PosShare TreeShare) (c : Dev nD) (f : Stats F) : sProp 𝕄 := sM1.view.loc (c : Thread nD τ) ↦[sM1.view.set]{q} f
/-- Half 0 and half 1 of the receive buffer of device `c`, at contents `f`. -/
abbrev r0Pts (c : Dev nD) (f : Stats F) : sProp 𝕄 := rM0.view.loc (c : Thread nD τ) ↦[rM0.view.set]{fullShare} f
abbrev r1Pts (c : Dev nD) (f : Stats F) : sProp 𝕄 := rM1.view.loc (c : Thread nD τ) ↦[rM1.view.set]{fullShare} f

abbrev barCell (c : Dev nD) : GSem nD τ sig := ((c : Thread nD τ), .reg barrier0)
abbrev snd0 (c : Dev nD) : GSem nD τ sig := ((c : Thread nD τ), .dma 10)
abbrev snd1 (c : Dev nD) : GSem nD τ sig := ((c : Thread nD τ), .dma 11)
abbrev rcv0 (c : Dev nD) : GSem nD τ sig := ((c : Thread nD τ), .dma 12)
abbrev rcv1 (c : Dev nD) : GSem nD τ sig := ((c : Thread nD τ), .dma 13)

/-- The units one copy of half a statistics buffer pays. -/
abbrev N : ℕ := rM0.view.dmaCredit
theorem N_pos : 0 < N := View.dmaCredit_pos _ (by decide)

/-! ## The schedule -/

-- the statistics of every device's rows, as far as the protocol is concerned: any assignment
variable (st : Dev nD → Stats F)

/-- What the partner's barrier unit hands `c`: the two halves of the partner's receive buffer, and that its receive cells
    are fresh. -/
def barPay (c : Dev nD) : sProp 𝕄 :=
  iprop((∃ f, r0Pts (peer c) f) ∗ (∃ f, r1Pts (peer c) f) ∗ reached ER (rcv0 (peer c)) 0 ∗ reached ER (rcv1 (peer c)) 0)

/-- The share of the statistics the copy borrows, and the one the device keeps. -/
abbrev qLent : PosShare TreeShare := fullShare.right
abbrev qKept : PosShare TreeShare := fullShare.left

/-- The five shared cells of a device. -/
abbrev IsTalk (g : GSem nD τ sig) : Prop :=
  g.1.2 = .tc ∧ (g.2 = .reg barrier0 ∨ g.2 = .dma 10 ∨ g.2 = .dma 11 ∨ g.2 = .dma 12 ∨ g.2 = .dma 13)

/-- One duty in round 0 of every shared cell. -/
def talkRd : Rounds.Schedule (GSem nD τ sig) Unit 𝕄 where
  duties g r := if r = 0 ∧ IsTalk g then {()} else ∅
  unitless _ := False
  amount g _ _ := if g.2 = .reg barrier0 then 1 else N
  payload g r _ :=
    if g.2 = .reg barrier0 then barPay g.1.1
    else if g.2 = .dma 12 then r0Pts g.1.1 (st (peer g.1.1))
    else if g.2 = .dma 13 then r1Pts g.1.1 (st (peer g.1.1))
    else if g.2 = .dma 10 then s0Pts qLent g.1.1 (st g.1.1)
    else if g.2 = .dma 11 then s1Pts qLent g.1.1 (st g.1.1)
    else iprop(emp)
  amount_pos g _ _ _ := by
    by_cases h : g.2 = .reg barrier0
    · rw [if_pos h]; exact Nat.one_pos
    · rw [if_neg h]; exact N_pos

instance talkRd_payload_storable (g : GSem nD τ sig) (r : ℕ) (d : Unit) :
    BI.Storable (upEmb : UEmb _ 𝕄) ((talkRd st).payload g r d) := by
  unfold talkRd barPay
  dsimp only
  (repeat' split) <;> infer_instance

section Sched

variable (c : Dev nD)

theorem duties_bar : (talkRd st).duties (barCell c) 0 = {()} := by dsimp only [talkRd]; exact if_pos ⟨rfl, rfl, .inl rfl⟩
theorem duties_snd0 : (talkRd st).duties (snd0 c) 0 = {()} := by dsimp only [talkRd]; exact if_pos ⟨rfl, rfl, .inr (.inl rfl)⟩
theorem duties_snd1 : (talkRd st).duties (snd1 c) 0 = {()} := by dsimp only [talkRd]; exact if_pos ⟨rfl, rfl, .inr (.inr (.inl rfl))⟩
theorem duties_rcv0 : (talkRd st).duties (rcv0 c) 0 = {()} := by dsimp only [talkRd]; exact if_pos ⟨rfl, rfl, .inr (.inr (.inr (.inl rfl)))⟩
theorem duties_rcv1 : (talkRd st).duties (rcv1 c) 0 = {()} := by dsimp only [talkRd]; exact if_pos ⟨rfl, rfl, .inr (.inr (.inr (.inr rfl)))⟩
theorem duties_later (g : GSem nD τ sig) : ∀ r, 1 ≤ r → (talkRd st).duties g r = ∅ :=
  fun r hr => by dsimp only [talkRd]; exact if_neg fun h => by omega

theorem amount_bar (u : Unit) : (talkRd st).amount (barCell c) 0 u = 1 := by dsimp only [talkRd]; exact if_pos rfl
theorem amount_dma (i : DmaSem sig) (u : Unit) : (talkRd st).amount ((c : Thread nD τ), .dma i) 0 u = N := by dsimp only [talkRd]; exact if_neg (fun h => by cases h)

theorem payload_bar (u : Unit) : (talkRd st).payload (barCell c) 0 u = barPay c := by dsimp only [talkRd]; exact if_pos rfl
theorem payload_rcv0 (u : Unit) : (talkRd st).payload (rcv0 c) 0 u = r0Pts c (st (peer c)) := by
  dsimp only [talkRd]; rw [if_neg (by decide), if_pos (by decide)]
theorem payload_rcv1 (u : Unit) : (talkRd st).payload (rcv1 c) 0 u = r1Pts c (st (peer c)) := by
  dsimp only [talkRd]; rw [if_neg (by decide), if_neg (by decide), if_pos (by decide)]
theorem payload_snd0 (u : Unit) : (talkRd st).payload (snd0 c) 0 u = s0Pts qLent c (st c) := by
  dsimp only [talkRd]; rw [if_neg (by decide), if_neg (by decide), if_neg (by decide), if_pos (by decide)]
theorem payload_snd1 (u : Unit) : (talkRd st).payload (snd1 c) 0 u = s1Pts qLent c (st c) := by
  dsimp only [talkRd]; rw [if_neg (by decide), if_neg (by decide), if_neg (by decide), if_neg (by decide), if_pos (by decide)]

theorem expect_bar : (talkRd st).expect (barCell c) 0 = 1 := by
  unfold Schedule.expect Schedule.amountOf; rw [duties_bar, Finset.sum_singleton, amount_bar]
theorem expect_snd0 : (talkRd st).expect (snd0 c) 0 = N := by
  unfold Schedule.expect Schedule.amountOf; rw [duties_snd0, Finset.sum_singleton, amount_dma]
theorem expect_snd1 : (talkRd st).expect (snd1 c) 0 = N := by
  unfold Schedule.expect Schedule.amountOf; rw [duties_snd1, Finset.sum_singleton, amount_dma]
theorem expect_rcv0 : (talkRd st).expect (rcv0 c) 0 = N := by
  unfold Schedule.expect Schedule.amountOf; rw [duties_rcv0, Finset.sum_singleton, amount_dma]
theorem expect_rcv1 : (talkRd st).expect (rcv1 c) 0 = N := by
  unfold Schedule.expect Schedule.amountOf; rw [duties_rcv1, Finset.sum_singleton, amount_dma]

theorem rest_bar : bigSep ((talkRd st).duties (barCell c) 0 \ ∅) (fun u => (talkRd st).payload (barCell c) 0 u) = barPay c := by
  rw [Finset.sdiff_empty, duties_bar, bigSep_singleton, payload_bar]
theorem rest_rcv0 : bigSep ((talkRd st).duties (rcv0 c) 0 \ ∅) (fun u => (talkRd st).payload (rcv0 c) 0 u) = r0Pts c (st (peer c)) := by
  rw [Finset.sdiff_empty, duties_rcv0, bigSep_singleton, payload_rcv0]
theorem rest_rcv1 : bigSep ((talkRd st).duties (rcv1 c) 0 \ ∅) (fun u => (talkRd st).payload (rcv1 c) 0 u) = r1Pts c (st (peer c)) := by
  rw [Finset.sdiff_empty, duties_rcv1, bigSep_singleton, payload_rcv1]
theorem rest_snd0 : bigSep ((talkRd st).duties (snd0 c) 0 \ ∅) (fun u => (talkRd st).payload (snd0 c) 0 u) = s0Pts qLent c (st c) := by
  rw [Finset.sdiff_empty, duties_snd0, bigSep_singleton, payload_snd0]
theorem rest_snd1 : bigSep ((talkRd st).duties (snd1 c) 0 \ ∅) (fun u => (talkRd st).payload (snd1 c) 0 u) = s1Pts qLent c (st c) := by
  rw [Finset.sdiff_empty, duties_snd1, bigSep_singleton, payload_snd1]

end Sched

/-! ## What each core owes at launch, and the levels -/

/-- What is still owed after the barrier unit: the copies of both halves; -/
abbrev O₁ (c : Dev nD) : CellTallies nD τ sig Unit := tallyAt (rcv1 (peer c)) () N + tallyAt (rcv0 (peer c)) () N
/-- and at launch. -/
abbrev O₀ (c : Dev nD) : CellTallies nD τ sig Unit := O₁ c + tallyAt (barCell (peer c)) () 1

def L (g : GSem nD τ sig) : Finset Unit := if g.1.2 = .tc then {()} else ∅
def lv (g : GSem nD τ sig) (_ : Unit) : ℕ := if g.2 = .reg barrier0 then 1 else if g.2 = .dma 12 ∨ g.2 = .dma 13 then 2 else 0

theorem L_of_ne (g : GSem nD τ sig) (h : g.1.2 ≠ .tc) : L g = ∅ := if_neg h
theorem L_tc (c : Dev nD) (sm : SemLoc sig) : L ((c : Thread nD τ), sm) = {()} := if_pos rfl

/-- A tally of three cells is positive only on them. -/
theorem tally_cases {O : CellTallies nD τ sig Unit} {g : GSem nD τ sig} {g' : GSem nD τ sig} {n : ℕ} {u : Unit}
    (h : 0 < (O + tallyAt g' () n) g u) : 0 < O g u ∨ g = g' := by
  by_cases hg : g = g'
  · exact .inr hg
  · left
    have : (O + tallyAt g' () n) g u = O g u + tallyAt g' () n g u := rfl
    rw [this, tallyAt_apply, if_neg (fun h => hg h.1), Nat.add_zero] at h
    exact h

end Cert.KernelIdeal.Swap

end
-- ==== Proof.Halves.lean ====
/-
  The two halves of a statistics buffer: which elements each has, how a buffer splits into them, and what a copy of a half
  leaves in the partner's receive buffer.
-/
module

public import proofs.«01_k».proof.Proof.Protocol

@[expose] public section

noncomputable section

namespace Cert.KernelIdeal.Swap

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The elements of half 0 and of half 1. -/
abbrev half0 : Finset S2x512x8.Idx := (Rect.unit (s := S2x512x8) ![0, 0, 0] S1x512x8.size inb_S2x512x8_S1x512x8_0_0_0).set
abbrev half1 : Finset S2x512x8.Idx := (Rect.unit (s := S2x512x8) ![1, 0, 0] S1x512x8.size inb_S2x512x8_S1x512x8_1_0_0).set

theorem sM0_set : (sM0.view.set : Finset S2x512x8.Idx) = half0 :=
  (View.set_reshape _ _).trans (View.set_slice_whole _ _)
theorem sM1_set : (sM1.view.set : Finset S2x512x8.Idx) = half1 :=
  (View.set_reshape _ _).trans (View.set_slice_whole _ _)
theorem rM0_set : (rM0.view.set : Finset S2x512x8.Idx) = half0 :=
  (View.set_reshape _ _).trans (View.set_slice_whole _ _)
theorem rM1_set : (rM1.view.set : Finset S2x512x8.Idx) = half1 :=
  (View.set_reshape _ _).trans (View.set_slice_whole _ _)

theorem mem_half0 (i : S2x512x8.Idx) : i ∈ half0 ↔ (i 0).val = 0 := by
  unfold half0
  rw [Rect.mem_set_unit]
  constructor
  · intro h; have := (h 0).2; simpa using this
  · intro h a
    fin_cases a
    · exact ⟨Nat.zero_le _, by show (i 0).val < _; rw [h]; decide⟩
    · exact ⟨Nat.zero_le _, (i 1).isLt⟩
    · exact ⟨Nat.zero_le _, (i 2).isLt⟩

theorem mem_half1 (i : S2x512x8.Idx) : i ∈ half1 ↔ (i 0).val = 1 := by
  unfold half1
  rw [Rect.mem_set_unit]
  constructor
  · intro h; exact Nat.le_antisymm (Nat.le_of_lt_succ (i 0).isLt) (h 0).1
  · intro h a
    fin_cases a
    · exact ⟨by show 1 ≤ (i 0).val; omega, by show (i 0).val < _; rw [h]; decide⟩
    · exact ⟨Nat.zero_le _, (i 1).isLt⟩
    · exact ⟨Nat.zero_le _, (i 2).isLt⟩

theorem half1_eq : (Finset.univ \ half0 : Finset S2x512x8.Idx) = half1 := by
  ext i
  rw [Finset.mem_sdiff, mem_half0, mem_half1]
  have := (i 0).isLt
  have h2 : S2x512x8.size 0 = 2 := rfl
  constructor
  · rintro ⟨-, h⟩; omega
  · intro h; exact ⟨Finset.mem_univ _, by omega⟩

theorem half_disjoint : Disjoint half0 half1 := by
  rw [← half1_eq]; exact Finset.disjoint_sdiff

theorem half_union : half0 ∪ half1 = Finset.univ := by
  rw [← half1_eq, Finset.union_sdiff_of_subset (Finset.subset_univ _)]

/-- A statistics buffer held whole is its two halves. -/
theorem stats_split (c : Dev nD) (f : Stats F) :
    ((Memref.whole cc0_scratch2).view.loc (c : Thread nD τ) ↦{fullShare} f : sProp 𝕄) ⊢ iprop(s0Pts fullShare c f ∗ s1Pts fullShare c f) := by
  refine (pointsTo_split_subset (I := half0) (Finset.subset_univ _)).1.trans (sep_mono (Entails.of_eq ?_) (Entails.of_eq ?_))
  · unfold s0Pts; rw [← sM0_set]
  · unfold s1Pts; rw [half1_eq, ← sM1_set]

theorem stats_join (c : Dev nD) (f g : Stats F) :
    iprop(s0Pts fullShare c f ∗ s1Pts fullShare c g) ⊢ (∃ h, (Memref.whole cc0_scratch2).view.loc (c : Thread nD τ) ↦{fullShare} h : sProp 𝕄) := by
  refine Entails.trans (Entails.of_eq ?_) ((pointsTo_join (ℓ := (Memref.whole cc0_scratch2).view.loc (c : Thread nD τ)) (I := half0) (J := half1) (q := fullShare) (f := f) (g := g) half_disjoint).trans ?_)
  · unfold s0Pts s1Pts; rw [← sM0_set, ← sM1_set]
  · iintro H; iexists _
    iapply (Entails.of_eq (by rw [half_union])) $$ H

theorem recv_split (c : Dev nD) (f : Stats F) :
    ((Memref.whole cc0_scratch3).view.loc (c : Thread nD τ) ↦{fullShare} f : sProp 𝕄) ⊢ iprop(r0Pts c f ∗ r1Pts c f) := by
  refine (pointsTo_split_subset (I := half0) (Finset.subset_univ _)).1.trans (sep_mono (Entails.of_eq ?_) (Entails.of_eq ?_))
  · unfold r0Pts; rw [← rM0_set]
  · unfold r1Pts; rw [half1_eq, ← rM1_set]

theorem recv_join (c : Dev nD) (f g : Stats F) :
    iprop(r0Pts c f ∗ r1Pts c g) ⊢ (∃ h, (Memref.whole cc0_scratch3).view.loc (c : Thread nD τ) ↦{fullShare} h : sProp 𝕄) := by
  refine Entails.trans (Entails.of_eq ?_) ((pointsTo_join (ℓ := (Memref.whole cc0_scratch3).view.loc (c : Thread nD τ)) (I := half0) (J := half1) (q := fullShare) (f := f) (g := g) half_disjoint).trans ?_)
  · unfold r0Pts r1Pts; rw [← rM0_set, ← rM1_set]
  · iintro H; iexists _
    iapply (Entails.of_eq (by rw [half_union])) $$ H

/-- A half's contents matter on its elements only. -/
theorem s0Pts_congr (q : PosShare TreeShare) (c : Dev nD) (f g : Stats F) (h : ∀ i : S2x512x8.Idx, (i 0).val = 0 → f i = g i) :
    (s0Pts q c f : sProp 𝕄) = s0Pts q c g :=
  pointsTo_congr fun i hi => h i ((mem_half0 i).mp (sM0_set ▸ hi))
theorem s1Pts_congr (q : PosShare TreeShare) (c : Dev nD) (f g : Stats F) (h : ∀ i : S2x512x8.Idx, (i 0).val = 1 → f i = g i) :
    (s1Pts q c f : sProp 𝕄) = s1Pts q c g :=
  pointsTo_congr fun i hi => h i ((mem_half1 i).mp (sM1_set ▸ hi))

/-- Half `h` of the receive buffer after half `h` of statistics `f` has landed in it holds `f`. -/
theorem landed0 (c : Dev nD) (fd f : Stats F) :
    (rM0.view.loc (c : Thread nD τ) ↦[rM0.view.set]{fullShare} rM0.view.write (Elt F) fd (sM0.view.read (Elt F) f) Finset.univ : sProp 𝕄) = r0Pts c f :=
  pointsTo_congr fun i hi => by
    obtain ⟨x, -, rfl⟩ := Finset.mem_map.mp hi
    rw [View.write_emb_of_mem _ _ (Finset.mem_univ _)]; rfl
theorem landed1 (c : Dev nD) (fd f : Stats F) :
    (rM1.view.loc (c : Thread nD τ) ↦[rM1.view.set]{fullShare} rM1.view.write (Elt F) fd (sM1.view.read (Elt F) f) Finset.univ : sProp 𝕄) = r1Pts c f :=
  pointsTo_congr fun i hi => by
    obtain ⟨x, -, rfl⟩ := Finset.mem_map.mp hi
    rw [View.write_emb_of_mem _ _ (Finset.mem_univ _)]; rfl

/-- The share a copy borrows and the share the device keeps. -/
theorem lend0 (c : Dev nD) (f : Stats F) : (s0Pts fullShare c f : sProp 𝕄) ⊣⊢ iprop(s0Pts qKept c f ∗ s0Pts qLent c f) :=
  pointsTo_share (PosShare.mem_left_op_right fullShare)
theorem lend1 (c : Dev nD) (f : Stats F) : (s1Pts fullShare c f : sProp 𝕄) ⊣⊢ iprop(s1Pts qKept c f ∗ s1Pts qLent c f) :=
  pointsTo_share (PosShare.mem_left_op_right fullShare)

end Cert.KernelIdeal.Swap

end
-- ==== Proof.Reads.lean ====
/-
  What the kernel's loads read and what its stores leave, in the terms of `Spec`: a chunk of the scratch copy of `x` is the
  chunk of `x`, the two rows are `gamma` and `beta`, four pairs of column stores fill one half of the statistics, eight row
  block stores fill the result.
-/
module

public import proofs.«01_k».proof.Proof.Spec
public import Idealize.ShloMosaic.Lib.Tactic
public import Idealize.ShloMosaic.Lib.Writes
public import Idealize.ShloMosaic.Lib.Pipeline.FrameBody

@[expose] public section

noncomputable section

namespace Cert.KernelIdeal.Swap

open Cert.KernelIdeal Cert.KernelIdeal.Gen
open Idealize.ShloMosaic Idealize.ShloMosaic.ValueIdx

variable {F : FTy → Type} [FloatOps F]

/-- An element a list of writes covers is read back as the function all its pieces are parts of. -/
theorem readCov_of_pieces {κ : Kind} {sp : Space} {s : Shape} {e : EltTy} (v : View sig κ sp s e) (G : s.Idx → Elt F e)
    (L : List (View.Piece (Elt F) s e)) (hG : ∀ p ∈ L, ∀ x : p.1.shape.Idx, p.2 x = G (p.1.emb x)) (B : LoadRect s) (x : B.shape.Idx)
    (h : ∃ p ∈ L, B.idx x ∈ p.1.set) : v.readCov L B x = G (B.idx x) :=
  View.read_writes_apply_of_pieces v v.junk G L hG _ h

/-- Eight writes, the last first. -/
abbrev eight {α : Type*} (f : Fin 8 → α) : List α := [f 7, f 6, f 5, f 4, f 3, f 2, f 1, f 0]

theorem mem_eight {α : Type*} (f : Fin 8 → α) (k : Fin 8) : f k ∈ eight f := by
  match k with
  | 0 | 1 | 2 | 3 | 4 | 5 | 6 | 7 => simp [eight]

theorem forall_eight {α : Type*} (f : Fin 8 → α) (C : α → Prop) (h : ∀ k, C (f k)) : ∀ p ∈ eight f, C p := by
  intro p hp
  simp only [eight, List.mem_cons, List.not_mem_nil, or_false] at hp
  rcases hp with rfl | rfl | rfl | rfl | rfl | rfl | rfl | rfl <;> exact h _

/-! ## Chunks of `x` -/

theorem chunk_inb (k : Fin 8) : ∀ a, ![512 * k.val, 0] a + S512x1024.size a ≤ S4096x1024.size a := by
  revert k; decide

/-- The rows of chunk `k`. -/
abbrev chunkRect (k : Fin 8) : Rect S4096x1024 := Rect.unit (s := S4096x1024) ![512 * k.val, 0] S512x1024.size (chunk_inb k)

theorem chunk_emb (k : Fin 8) (x : S512x1024.Idx) :
    (chunkRect k).emb x = (ix2 ⟨512 * k.val + (x 0).val, by have : (x 0).val < 512 := (x 0).isLt; omega⟩ ⟨(x 1).val, (x 1).isLt⟩ : S4096x1024.Idx) := by
  funext a
  match a with
  | ⟨0, _⟩ => exact Fin.ext (by show 512 * k.val + 1 * (x 0).val = _; rw [Nat.one_mul])
  | ⟨1, _⟩ => exact Fin.ext (by show 0 + 1 * (x 1).val = _; rw [Nat.one_mul, Nat.zero_add])

/-- The copy of chunk `k` of `x`. -/
abbrev xPiece (X : Vec F S4096x1024 .f32) (k : Fin 8) : View.Piece (Elt F) S4096x1024 .f32 := ⟨chunkRect k, fun x => X ((chunkRect k).emb x)⟩

theorem chunk_read (X : Vec F S4096x1024 .f32) (k : Fin 8) :
    (Memref.whole cc0_scratch0).view.readCov (eight (xPiece X)) (chunkRect k).toLoadRect = xChunk X k :=
  funext fun x => (readCov_of_pieces _ X _ (forall_eight (xPiece X) (fun p => ∀ x, p.2 x = X (p.1.emb x)) fun _ _ => rfl) _ x
    ⟨xPiece X k, mem_eight _ k, (chunkRect k).toLoadRect.idx_mem x⟩).trans (congrArg X (chunk_emb k x))

/-! ## The two rows -/

theorem gamma_read (G B : Vec F S1x1024 .f32) (i0 i1 inb) :
    (Memref.whole cc0_scratch1).view.readCov [⟨Rect.unit (s := S2x1024) ![1, 0] S1x1024.size i1, B⟩, ⟨Rect.unit (s := S2x1024) ![0, 0] S1x1024.size i0, G⟩]
      (Rect.unit (s := S2x1024) ![0, 0] S1x1024.size inb).toLoadRect = G := by
  rw [View.readCov_cons_of_disjoint]
  · exact View.readCov_cons_toLoadRect _ _ _ _
  · refine Finset.disjoint_left.mpr fun i h h' => ?_
    have h1 := ((Rect.mem_set_unit (inb := i1)).mp h 0).1
    have h0 := ((Rect.mem_set_unit (inb := inb)).mp h' 0).2
    exact absurd (Nat.lt_of_le_of_lt h1 h0) (Nat.lt_irrefl 1)

theorem beta_read (G B : Vec F S1x1024 .f32) (i0 i1 inb) :
    (Memref.whole cc0_scratch1).view.readCov [⟨Rect.unit (s := S2x1024) ![1, 0] S1x1024.size i1, B⟩, ⟨Rect.unit (s := S2x1024) ![0, 0] S1x1024.size i0, G⟩]
      (Rect.unit (s := S2x1024) ![1, 0] S1x1024.size inb).toLoadRect = B :=
  View.readCov_cons_toLoadRect _ _ _ _

/-! ## The statistics -/

theorem col_inb (h : Fin 2) (j : Fin 8) : ∀ a, ![h.val, 0, j.val] a + S1x512x1.size a ≤ S2x512x8.size a := by
  revert h j; decide

/-- Column `j` of half `h`. -/
abbrev colRect (h : Fin 2) (j : Fin 8) : Rect S2x512x8 := Rect.unit (s := S2x512x8) ![h.val, 0, j.val] S1x512x1.size (col_inb h j)

theorem col_emb (h : Fin 2) (j : Fin 8) (x : S1x512x1.Idx) : (colRect h j).emb x = (ix3 h ⟨(x 1).val, (x 1).isLt⟩ j : S2x512x8.Idx) := by
  have h0 : (x 0).val < 1 := (x 0).isLt
  have h2 : (x 2).val < 1 := (x 2).isLt
  funext a
  match a with
  | ⟨0, _⟩ => exact Fin.ext (by show h.val + 1 * (x 0).val = h.val; omega)
  | ⟨1, _⟩ => exact Fin.ext (by show 0 + 1 * (x 1).val = _; rw [Nat.one_mul, Nat.zero_add])
  | ⟨2, _⟩ => exact Fin.ext (by show j.val + 1 * (x 2).val = j.val; omega)

theorem col_read_own (S : Stats F) (h : Fin 2) (j : Fin 8) : (Memref.whole cc0_scratch2).view.readAt (Elt F) (colRect h j).toLoadRect S = col S h j :=
  funext fun x => congrArg S (col_emb h j x)
theorem col_read_peer (S : Stats F) (h : Fin 2) (j : Fin 8) : (Memref.whole cc0_scratch3).view.readAt (Elt F) (colRect h j).toLoadRect S = col S h j :=
  funext fun x => congrArg S (col_emb h j x)

/-- A column index's place in the one-column shape. -/
theorem eq_ix3_col (x : S1x512x1.Idx) : x = ix3 0 ⟨(x 1).val, (x 1).isLt⟩ 0 := by
  funext a
  match a with
  | ⟨0, _⟩ => exact Fin.ext (Nat.lt_one_iff.mp (x 0).isLt)
  | ⟨1, _⟩ => rfl
  | ⟨2, _⟩ => exact Fin.ext (Nat.lt_one_iff.mp (x 2).isLt)

/-- Which chunk and which of its two columns fill column `j` of half `h`. -/
abbrev colOf (X : Vec F S4096x1024 .f32) (h : Fin 2) (j : Fin 8) : Vec F S1x512x1 .f32 :=
  column X ⟨4 * h.val + j.val / 2, by omega⟩ (decide (j.val % 2 = 1))

theorem stats_col (X : Vec F S4096x1024 .f32) (h : Fin 2) (j : Fin 8) (x : S1x512x1.Idx) : colOf X h j x = stats X ((colRect h j).emb x) := by
  rw [col_emb]
  exact congrArg (colOf X h j) (eq_ix3_col x)

/-- A column stored. -/
abbrev colPiece (h : Fin 2) (j : Fin 8) (p : Vec F S1x512x1 .f32) : View.Piece (Elt F) S2x512x8 .f32 := ⟨colRect h j, p⟩

/-- The eight column stores of half `h`. -/
theorem half_written (X : Vec F S4096x1024 .f32) (s : Stats F) (h : Fin 2) (p : Fin 8 → Vec F S1x512x1 .f32) (hp : ∀ j, p j = colOf X h j)
    (i : S2x512x8.Idx) (hi : (i 0).val = h.val) :
    (Memref.whole cc0_scratch2).view.writes (Elt F) s (eight fun j => colPiece h j (p j)) i = stats X i := by
  obtain rfl : p = colOf X h := funext hp
  refine (congrFun (View.read_whole (Val := Elt F) cc0_scratch2 _).symm i).trans ?_
  refine View.read_writes_apply_of_pieces (Memref.whole cc0_scratch2).view s (stats X) _
    (forall_eight (fun j => colPiece h j (colOf X h j)) (fun p => ∀ x : p.1.shape.Idx, p.2 x = stats X (p.1.emb x)) fun j x => stats_col X h j x) i ⟨_, mem_eight _ ⟨(i 2).val, (i 2).isLt⟩, ?_⟩
  have : i = (colRect h ⟨(i 2).val, (i 2).isLt⟩).emb (ix3 0 ⟨(i 1).val, (i 1).isLt⟩ 0) := by
    rw [col_emb]
    funext a
    match a with
    | ⟨0, _⟩ => exact Fin.ext hi
    | ⟨1, _⟩ => rfl
    | ⟨2, _⟩ => rfl
  exact this ▸ (colRect h ⟨(i 2).val, (i 2).isLt⟩).toLoadRect.idx_mem _

/-! ## The result -/

set_option maxHeartbeats 2000000 in
theorem out_chunk (X : Vec F S4096x1024 .f32) (G B : Vec F S1x1024 .f32) (S P : Stats F) (k : Fin 8) (x : S512x1024.Idx) :
    outChunk X G B S P k x = out X G B S P ((chunkRect k).emb x) := by
  rw [chunk_emb]
  have hx : (x 0).val < 512 := (x 0).isLt
  have hk : (512 * k.val + (x 0).val) / 512 = k.val := by omega
  have hr : (512 * k.val + (x 0).val) % 512 = (x 0).val := by omega
  unfold out
  refine congr (congrArg (outChunk X G B S P) (Fin.ext hk.symm)) ?_
  funext a
  match a with
  | ⟨0, _⟩ => exact Fin.ext hr.symm
  | ⟨1, _⟩ => rfl

/-- A block of the result, from what the loads read. -/
theorem outChunk_read (X : Vec F S4096x1024 .f32) (G B : Vec F S1x1024 .f32) (S P : Stats F) (k : Fin 8) (i0 i1 j0 j1) :
    k0_pay33 ((Memref.whole cc0_scratch2).view.readAt (Elt F) (colRect ⟨k.val / 4, by omega⟩ ⟨2 * (k.val % 4), by omega⟩).toLoadRect S)
      ((Memref.whole cc0_scratch3).view.readAt (Elt F) (colRect ⟨k.val / 4, by omega⟩ ⟨2 * (k.val % 4), by omega⟩).toLoadRect P)
      ((Memref.whole cc0_scratch2).view.readAt (Elt F) (colRect ⟨k.val / 4, by omega⟩ ⟨2 * (k.val % 4) + 1, by omega⟩).toLoadRect S)
      ((Memref.whole cc0_scratch3).view.readAt (Elt F) (colRect ⟨k.val / 4, by omega⟩ ⟨2 * (k.val % 4) + 1, by omega⟩).toLoadRect P)
      ((Memref.whole cc0_scratch0).view.readCov (eight (xPiece X)) (chunkRect k).toLoadRect)
      ((Memref.whole cc0_scratch1).view.readCov [⟨Rect.unit (s := S2x1024) ![1, 0] S1x1024.size i1, B⟩, ⟨Rect.unit (s := S2x1024) ![0, 0] S1x1024.size i0, G⟩]
        (Rect.unit (s := S2x1024) ![0, 0] S1x1024.size j0).toLoadRect)
      ((Memref.whole cc0_scratch1).view.readCov [⟨Rect.unit (s := S2x1024) ![1, 0] S1x1024.size i1, B⟩, ⟨Rect.unit (s := S2x1024) ![0, 0] S1x1024.size i0, G⟩]
        (Rect.unit (s := S2x1024) ![1, 0] S1x1024.size j1).toLoadRect)
      = outChunk X G B S P k := by
  rw [col_read_own, col_read_own, col_read_peer, col_read_peer, chunk_read, gamma_read, beta_read]; rfl

/-- A block of rows stored. -/
abbrev rowPiece (k : Fin 8) (p : Vec F S512x1024 .f32) : View.Piece (Elt F) S4096x1024 .f32 := ⟨chunkRect k, p⟩

/-- The eight row block stores of the result. -/
theorem out_written (X : Vec F S4096x1024 .f32) (G B : Vec F S1x1024 .f32) (S P : Stats F) (o : Vec F S4096x1024 .f32) (p : Fin 8 → Vec F S512x1024 .f32)
    (hp : ∀ k, p k = outChunk X G B S P k) :
    (Memref.whole cc0_stg0_0).view.writes (Elt F) o (eight fun k => rowPiece k (p k)) = out X G B S P := by
  obtain rfl : p = outChunk X G B S P := funext hp
  funext i
  refine (congrFun (View.read_whole (Val := Elt F) cc0_stg0_0 _).symm i).trans ?_
  have hi : (i 0).val < 4096 := (i 0).isLt
  obtain ⟨k, hk⟩ : ∃ k : Fin 8, k.val = (i 0).val / 512 := ⟨⟨(i 0).val / 512, by omega⟩, rfl⟩
  have he : (chunkRect k).emb (ix2 ⟨(i 0).val % 512, Nat.mod_lt _ (by decide)⟩ ⟨(i 1).val, (i 1).isLt⟩) = i := by
    rw [chunk_emb]
    funext a
    match a with
    | ⟨0, _⟩ => exact Fin.ext (by show 512 * k.val + (i 0).val % 512 = (i 0).val; omega)
    | ⟨1, _⟩ => rfl
  have hm : i ∈ (chunkRect k).set :=
    Eq.subst (motive := fun y => y ∈ (chunkRect k).set) he ((chunkRect k).toLoadRect.idx_mem _)
  exact View.read_writes_apply_of_pieces (Memref.whole cc0_stg0_0).view o (out X G B S P) _
    (forall_eight (fun k => rowPiece k (outChunk X G B S P k)) (fun p => ∀ x : p.1.shape.Idx, p.2 x = out X G B S P (p.1.emb x)) fun k x => out_chunk X G B S P k x)
    i ⟨rowPiece k (outChunk X G B S P k), mem_eight (fun k => rowPiece k (outChunk X G B S P k)) k, hm⟩

end Cert.KernelIdeal.Swap

end
-- ==== Proof.Body.lean ====
/-
  One device's run of the kernel body.
-/
module

public import proofs.«01_k».proof.Proof.Halves
public import proofs.«01_k».proof.Proof.Reads

@[expose] public section

noncomputable section

namespace Cert.KernelIdeal.Swap

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Waiting while the partner's units are still owed -/

/-- A wait on a cell of level below `b` is allowed while only cells of level at least `b` are owed. -/
theorem mayWait_of (b : ℕ) (c : Dev nD) (sm : SemLoc sig) (O : CellTallies nD τ sig Unit)
    (hsm : lv ((c : Thread nD τ), sm) () < b + 1)
    (hO : ∀ g u, 0 < O g u → g.1.2 = .tc ∧ b < lv g u) :
    (levAts L lv : sProp 𝕄) ⊢ MayWait (c : Thread nD τ) sm () O :=
  MayOwe.of_cut (L := L) (lev := lv) b (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact Nat.le_of_lt_succ hsm)
    (fun g u hg => (hO g u hg).2)

theorem lv_bar (c : Dev nD) (u : Unit) : lv (barCell c) u = 1 := by dsimp only [lv]; decide +revert
theorem lv_rcv0 (c : Dev nD) (u : Unit) : lv (rcv0 c) u = 2 := by dsimp only [lv]; decide +revert
theorem lv_rcv1 (c : Dev nD) (u : Unit) : lv (rcv1 c) u = 2 := by dsimp only [lv]; decide +revert

theorem owed_O₁ (c : Dev nD) (g : GSem nD τ sig) (u : Unit) (h : 0 < O₁ c g u) : g.1.2 = .tc ∧ 1 < lv g u := by
  rcases tally_cases h with h | rfl
  · rw [tallyAt_apply] at h
    by_cases hg : g = rcv1 (peer c) ∧ u = ()
    · rw [hg.1]; exact ⟨rfl, by rw [lv_rcv1]; decide⟩
    · rw [if_neg hg] at h; exact absurd h (Nat.lt_irrefl 0)
  · exact ⟨rfl, by rw [lv_rcv0]; decide⟩

theorem owed_O₀ (c : Dev nD) (g : GSem nD τ sig) (u : Unit) (h : 0 < O₀ c g u) : g.1.2 = .tc ∧ 0 < lv g u := by
  rcases tally_cases h with h | rfl
  · exact ⟨(owed_O₁ c g u h).1, Nat.lt_of_succ_lt (owed_O₁ c g u h).2⟩
  · exact ⟨rfl, by rw [lv_bar]; decide⟩

theorem mayWait_bar (c : Dev nD) : (levAts L lv : sProp 𝕄) ⊢ MayWait (c : Thread nD τ) (.reg barrier0) () (O₁ c) :=
  mayWait_of 1 c _ _ (by decide +revert) (owed_O₁ c)

/-- The waits for the copies inside the device. -/
theorem mayWait_local₀ (c : Dev nD) (k : DmaSem sig) (hk : k.val < 10) :
    (levAts L lv : sProp 𝕄) ⊢ MayWait (c : Thread nD τ) (.dma k) () (O₀ c) :=
  mayWait_of 0 c _ _ (by revert hk; revert k; decide +revert) (owed_O₀ c)

theorem mayWait_local₁ (c : Dev nD) (k : DmaSem sig) (hk : k.val < 10) :
    (levAts L lv : sProp 𝕄) ⊢ MayWait (c : Thread nD τ) (.dma k) () (O₁ c) :=
  mayWait_of 1 c _ _ (by revert hk; revert k; decide +revert) (owed_O₁ c)

theorem mayWait_local₂ (c : Dev nD) (k : DmaSem sig) (hk : k.val < 10) :
    (levAts L lv : sProp 𝕄) ⊢ MayWait (c : Thread nD τ) (.dma k) () (tallyAt (rcv1 (peer c)) () N) :=
  mayWait_of 1 c _ _ (by revert hk; revert k; decide +revert) fun g u h => owed_O₁ c g u (Nat.lt_of_lt_of_le h (Nat.le_add_right _ _))

/-! ## The run -/

/-- Memref `M`'s buffer on device `c`, whole, at contents `f`. -/
abbrev pt (c : Dev nD) {sp : Space} {S : Shape} {e : EltTy} (M : Memref sig .tc sp S e) (f : Buf (Elt F) (M.view.loc (c : Thread nD τ))) : sProp 𝕄 :=
  M.view.loc (c : Thread nD τ) ↦{fullShare} f

abbrev body : Prog (TpuEff nD τ sig (Elt F) Λ₀ .tc) PUnit :=
  cc0_body (Memref.whole main_arg0) (Memref.isWhole_whole _) (Memref.whole main_v1) (Memref.isWhole_whole _) (Memref.whole main_v2) (Memref.isWhole_whole _) (Memref.whole cc0_stg0_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7

def localSems (c : Dev nD) : sProp 𝕄 :=
  iprop(semVal ((c : Thread nD τ), .dma 1) 0 ∗ semVal ((c : Thread nD τ), .dma 2) 0 ∗ semVal ((c : Thread nD τ), .dma 3) 0 ∗ semVal ((c : Thread nD τ), .dma 4) 0
    ∗ semVal ((c : Thread nD τ), .dma 5) 0 ∗ semVal ((c : Thread nD τ), .dma 6) 0 ∗ semVal ((c : Thread nD τ), .dma 7) 0 ∗ semVal ((c : Thread nD τ), .dma 8) 0 ∗ semVal ((c : Thread nD τ), .dma 9) 0)

variable (st : Dev nD → Stats F)

theorem payload_bar_own (c : Dev nD) (u : Unit) : (talkRd st).payload (barCell c) 0 u
    = iprop((∃ f, r0Pts (peer c) f) ∗ (∃ f, r1Pts (peer c) f) ∗ reached ER (rcv0 (peer c)) 0 ∗ reached ER (rcv1 (peer c)) 0) := by
  rw [payload_bar]; rfl

attribute [local sl_rounds] duties_bar amount_bar payload_bar_own peer_peer expect_bar
  duties_rcv0 duties_rcv1 duties_snd0 duties_snd1 amount_dma payload_rcv0 payload_rcv1 payload_snd0 payload_snd1 expect_rcv0 expect_rcv1 expect_snd0 expect_snd1

/-- The invariants of the cells device `c` signals, waits on or copies through. -/
def invs (K : GSem nD τ sig → ℕ) (c : Dev nD) : sProp 𝕄 :=
  iprop(cellInv ER (talkRd st) (K (barCell c)) (barCell c) ∗ cellInv ER (talkRd st) (K (barCell (peer c))) (barCell (peer c))
    ∗ cellInv ER (talkRd st) (K (snd0 c)) (snd0 c) ∗ cellInv ER (talkRd st) (K (snd1 c)) (snd1 c)
    ∗ cellInv ER (talkRd st) (K (rcv0 c)) (rcv0 c) ∗ cellInv ER (talkRd st) (K (rcv1 c)) (rcv1 c)
    ∗ cellInv ER (talkRd st) (K (rcv0 (peer c))) (rcv0 (peer c)) ∗ cellInv ER (talkRd st) (K (rcv1 (peer c))) (rcv1 (peer c)))

instance invs_persistent (K : GSem nD τ sig → ℕ) (c : Dev nD) : BI.Persistent (invs st K c) := by unfold invs; infer_instance

/-- What device `c` holds of its cells at the body's start: its positions, that every cell is fresh, and the tokens of the
    duties it fulfils. -/
def opened (c : Dev nD) : sProp 𝕄 :=
  iprop((atPos ER (barCell c) 0 ∅ 0 ∗ atPos ER (snd0 c) 0 ∅ 0 ∗ atPos ER (snd1 c) 0 ∅ 0 ∗ atPos ER (rcv0 c) 0 ∅ 0 ∗ atPos ER (rcv1 c) 0 ∅ 0)
    ∗ (reached ER (barCell (peer c)) 0 ∗ reached ER (snd0 c) 0 ∗ reached ER (snd1 c) 0 ∗ reached ER (rcv0 c) 0 ∗ reached ER (rcv1 c) 0)
    ∗ (dutyTok ER (barCell (peer c)) 0 () ∗ dutyTok ER (snd0 c) 0 () ∗ dutyTok ER (snd1 c) 0 () ∗ dutyTok ER (rcv0 (peer c)) 0 () ∗ dutyTok ER (rcv1 (peer c)) 0 ()))

/-- The units the partner and its copies owe `c`. -/
def credits (c : Dev nD) : sProp 𝕄 :=
  iprop(cred (tallyAt (barCell c) () 1) ∗ cred (tallyAt (rcv0 c) () N) ∗ cred (tallyAt (rcv1 c) () N))

/-- A cell whose one round is over has no use left: its counter comes back, at zero. -/
theorem close (κ : ℕ) (g : GSem nD τ sig) :
    iprop(cellInv ER (talkRd st) κ g ∗ atPos ER g 1 ∅ 0) ⊢ (|={Set.univ}=> semVal g 0 : sProp 𝕄) :=
  Rounds.cell_close ER (talkRd st) (Set.mem_univ κ) id (duties_later st g)

/-- What the body leaves: the inputs as they were, the block `Y` in the output's buffer, the scratch buffers, every
    counter at zero, nothing owed. -/
def after (c : Dev nD) (X : Vec F S4096x1024 .f32) (G B : Vec F S1x1024 .f32) (Y : Vec F S4096x1024 .f32) : sProp 𝕄 :=
  iprop(pt c (Memref.whole main_arg0) X ∗ pt c (Memref.whole main_v1) G ∗ pt c (Memref.whole main_v2) B ∗ pt c (Memref.whole cc0_stg0_0) Y
    ∗ (∃ f, pt c (Memref.whole cc0_scratch0) f) ∗ (∃ f, pt c (Memref.whole cc0_scratch1) f) ∗ (∃ f, pt c (Memref.whole cc0_scratch2) f) ∗ (∃ f, pt c (Memref.whole cc0_scratch3) f)
    ∗ localSems c ∗ semVal (barCell c) 0 ∗ semVal (snd0 c) 0 ∗ semVal (snd1 c) 0 ∗ semVal (rcv0 c) 0 ∗ semVal (rcv1 c) 0
    ∗ ∃ W, owes (c : Thread nD τ) (0 : CellTallies nD τ sig Unit) W)

/-- The copy of half 0 of the statistics: it borrows a share of the half, and is owed back through the send cell. -/
theorem send0 (K : GSem nD τ sig → ℕ) (c : Dev nD) (fd : Stats F) {W : Waits sig Unit} {α : Type}
    {hsc : rM0.view.ref.isScScratch = false} {hsrc : sM0.view.WordExact} {hdst : rM0.view.WordExact}
    {hsem : DmaTarget.Typed .vmem (.dma 12) (.remote (peer c : Thread nD τ) rM0 (.dma 10) hsc)}
    {k : PUnit → Prog (TpuEff nD τ sig (Elt F) Λ₀ .tc) α} {Q : α → sProp 𝕄} :
    iprop(cellInv ER (talkRd st) (K (snd0 c)) (snd0 c) ∗ cellInv ER (talkRd st) (K (rcv0 (peer c))) (rcv0 (peer c))
      ∗ s0Pts qLent c (st c) ∗ r0Pts (peer c) fd ∗ owes (c : Thread nD τ) (O₁ c) W
      ∗ dutyTok ER (snd0 c) 0 () ∗ reached ER (snd0 c) 0 ∗ dutyTok ER (rcv0 (peer c)) 0 () ∗ reached ER (rcv0 (peer c)) 0)
    ⊢ iprop(((cred (tallyAt (snd0 c) () N) ∗ owes (c : Thread nD τ) (tallyAt (rcv1 (peer c)) () N) W)
          -∗ wp frame (wpE (defs₀ (F := F)) Variants.none c none) Set.univ (k ⟨⟩) Q)
        -∗ wp frame (wpE (defs₀ (F := F)) Variants.none c none) Set.univ
            (.op (.enqueueDma sM0 (.remote (peer c : Thread nD τ) rM0 (.dma 10) hsc) (.dma 12) hsrc hdst hsem) k) Q) :=
  Rounds.wp_send_pointsTo Variants.none ER (talkRd st) (c : Thread nD τ) none
    (by rw [duties_snd0]; exact Finset.mem_singleton_self _) (by rw [duties_rcv0]; exact Finset.mem_singleton_self _)
    () () N rfl (amount_dma st c 10 ()) (amount_dma st (peer c) 12 ()) (tallyAt (rcv1 (peer c)) () N) rfl
    (by rw [payload_snd0]) (by rw [payload_rcv0, landed0, peer_peer])

/-- The copy of half 1, after which nothing is owed. -/
theorem send1 (K : GSem nD τ sig → ℕ) (c : Dev nD) (fd : Stats F) {W : Waits sig Unit} {α : Type}
    {hsc : rM1.view.ref.isScScratch = false} {hsrc : sM1.view.WordExact} {hdst : rM1.view.WordExact}
    {hsem : DmaTarget.Typed .vmem (.dma 13) (.remote (peer c : Thread nD τ) rM1 (.dma 11) hsc)}
    {k : PUnit → Prog (TpuEff nD τ sig (Elt F) Λ₀ .tc) α} {Q : α → sProp 𝕄} :
    iprop(cellInv ER (talkRd st) (K (snd1 c)) (snd1 c) ∗ cellInv ER (talkRd st) (K (rcv1 (peer c))) (rcv1 (peer c))
      ∗ s1Pts qLent c (st c) ∗ r1Pts (peer c) fd ∗ owes (c : Thread nD τ) (tallyAt (rcv1 (peer c)) () N) W
      ∗ dutyTok ER (snd1 c) 0 () ∗ reached ER (snd1 c) 0 ∗ dutyTok ER (rcv1 (peer c)) 0 () ∗ reached ER (rcv1 (peer c)) 0)
    ⊢ iprop(((cred (tallyAt (snd1 c) () N) ∗ owes (c : Thread nD τ) (0 : CellTallies nD τ sig Unit) W)
          -∗ wp frame (wpE (defs₀ (F := F)) Variants.none c none) Set.univ (k ⟨⟩) Q)
        -∗ wp frame (wpE (defs₀ (F := F)) Variants.none c none) Set.univ
            (.op (.enqueueDma sM1 (.remote (peer c : Thread nD τ) rM1 (.dma 11) hsc) (.dma 13) hsrc hdst hsem) k) Q) :=
  Rounds.wp_send_pointsTo Variants.none ER (talkRd st) (c : Thread nD τ) none
    (by rw [duties_snd1]; exact Finset.mem_singleton_self _) (by rw [duties_rcv1]; exact Finset.mem_singleton_self _)
    () () N rfl (amount_dma st c 11 ()) (amount_dma st (peer c) 13 ()) 0 (zero_add _).symm
    (by rw [payload_snd1]) (by rw [payload_rcv1, landed1, peer_peer])

set_option sl_exec.dmaWindow true in
theorem bodyRun (K : GSem nD τ sig → ℕ) (c : Dev nD) (X : Vec F S4096x1024 .f32) (G B : Vec F S1x1024 .f32) (o : Vec F S4096x1024 .f32)
   (xv : Vec F S4096x1024 .f32) (gb : Vec F S2x1024 .f32) (s r : Stats F) (W : Waits sig Unit) (Q : PUnit → sProp 𝕄) (hst : st c = stats X) :
   iprop(pt c (Memref.whole main_arg0) X ∗ pt c (Memref.whole main_v1) G ∗ pt c (Memref.whole main_v2) B ∗ pt c (Memref.whole cc0_stg0_0) o
     ∗ pt c (Memref.whole cc0_scratch0) xv ∗ pt c (Memref.whole cc0_scratch1) gb ∗ pt c (Memref.whole cc0_scratch2) s ∗ pt c (Memref.whole cc0_scratch3) r
     ∗ localSems c ∗ levAts L lv ∗ invs st K c ∗ opened c ∗ credits c ∗ owes (c : Thread nD τ) (O₁ c + tallyAt (barCell (peer c)) () 1) W
     ∗ (after c X G B (out X G B (st c) (st (peer c))) -∗ Q ⟨⟩))
    ⊢ wp frame (wpE (defs₀ (F := F)) Variants.none c none) Set.univ (body (F := F)) Q := by
  unfold localSems invs opened credits
  iintro ⟨Hx, Hg, Hb, Ho, Hxv, Hgb, Hs, Hr, ⟨Hd1, Hd2, Hd3, Hd4, Hd5, Hd6, Hd7, Hd8, Hd9⟩, #Hlev, ⟨#HIb, #HIbP, #HIs0, #HIs1, #HIr0, #HIr1, #HIr0P, #HIr1P⟩, ⟨⟨HaB, HaS0, HaS1, HaR0, HaR1⟩, ⟨#HeB, #HeS0, #HeS1, #HeR0, #HeR1⟩, ⟨HtB, HtS0, HtS1, HtR0, HtR1⟩⟩, ⟨HcB, HcR0, HcR1⟩, HO, Hend⟩
  ihave ⟨Hr0, Hr1⟩ := (recv_split c r) $$ Hr
  have hw0 := fun k hk => mayWait_local₀ (F := F) c k hk
  have hw1 := fun k hk => mayWait_local₁ (F := F) c k hk
  have hwb := mayWait_bar (F := F) c
  have hO : O₀ c = O₁ c + tallyAt (barCell (peer c)) () 1 := rfl
  have hd1 := dev1_eq c
  have hd2 := dev2_eq c
  have hd3 := dev3_eq c
  sl_exec
  ihave ⟨Hs0, Hs1⟩ := (stats_split c _) $$ Hs
  ihave Hs0 := (Entails.of_eq (s0Pts_congr fullShare c _ (st c) (by
    intro i hi
    refine (half_written X s 0 ![_, _, _, _, _, _, _, _] ?_ i hi).trans (congrFun hst i).symm
    intro j
    match j with
    | 0 => exact congrArg k0_pay1 (chunk_read X 0)
    | 1 => exact congrArg k0_pay2 (chunk_read X 0)
    | 2 => exact congrArg k0_pay1 (chunk_read X 1)
    | 3 => exact congrArg k0_pay2 (chunk_read X 1)
    | 4 => exact congrArg k0_pay1 (chunk_read X 2)
    | 5 => exact congrArg k0_pay2 (chunk_read X 2)
    | 6 => exact congrArg k0_pay1 (chunk_read X 3)
    | 7 => exact congrArg k0_pay2 (chunk_read X 3)))) $$ Hs0
  ihave ⟨Hk0, Hl0⟩ := (lend0 c (st c)).1 $$ Hs0
  iapply (send0 st K c HaB_pay1_v) $$ [Hl0 HaB_pay1 HO HtS0 HtR0 HaB_pay3]
  · isplitr; · iexact HIs0
    isplitr; · iexact HIr0P
    isplitl [Hl0]; · iexact Hl0
    isplitl [HaB_pay1]; · iexact HaB_pay1
    isplitl [HO]; · iexact HO
    isplitl [HtS0]; · iexact HtS0
    isplitr; · iexact HeS0
    isplitl [HtR0]; · iexact HtR0
    iexact HaB_pay3
  iintro ⟨HcS0, HO⟩
  have hw2 := fun k hk => mayWait_local₂ (F := F) c k hk
  ihave ⟨%s1, Hs1⟩ := (exists_intro (Φ := fun f => s1Pts fullShare c f) _) $$ Hs1
  sl_exec
  ihave Hs1 := (Entails.of_eq (s1Pts_congr fullShare c _ (st c) (by
    intro i hi
    refine (half_written X s1 1 ![_, _, _, _, _, _, _, _] ?_ i hi).trans (congrFun hst i).symm
    intro j
    match j with
    | 0 => exact congrArg k0_pay1 (chunk_read X 4)
    | 1 => exact congrArg k0_pay2 (chunk_read X 4)
    | 2 => exact congrArg k0_pay1 (chunk_read X 5)
    | 3 => exact congrArg k0_pay2 (chunk_read X 5)
    | 4 => exact congrArg k0_pay1 (chunk_read X 6)
    | 5 => exact congrArg k0_pay2 (chunk_read X 6)
    | 6 => exact congrArg k0_pay1 (chunk_read X 7)
    | 7 => exact congrArg k0_pay2 (chunk_read X 7)))) $$ Hs1
  ihave ⟨Hk1, Hl1⟩ := (lend1 c (st c)).1 $$ Hs1
  iapply (send1 st K c HaB_pay2_v) $$ [Hl1 HaB_pay2 HO HtS1 HtR1 HaB_pay4]
  · isplitr; · iexact HIs1
    isplitr; · iexact HIr1P
    isplitl [Hl1]; · iexact Hl1
    isplitl [HaB_pay2]; · iexact HaB_pay2
    isplitl [HO]; · iexact HO
    isplitl [HtS1]; · iexact HtS1
    isplitr; · iexact HeS1
    isplitl [HtR1]; · iexact HtR1
    iexact HaB_pay4
  iintro ⟨HcS1, HO⟩
  sl_exec
  ihave Ho := (Entails.of_eq (congrArg (pt c (Memref.whole cc0_stg0_0)) (show _ = out X G B (st c) (st (peer c)) by
    refine out_written X G B (st c) (st (peer c)) o ![_, _, _, _, _, _, _, _] ?_
    intro k
    match k with
    | 0 => exact outChunk_read X G B (st c) (st (peer c)) 0 _ _ _ _
    | 1 => exact outChunk_read X G B (st c) (st (peer c)) 1 _ _ _ _
    | 2 => exact outChunk_read X G B (st c) (st (peer c)) 2 _ _ _ _
    | 3 => exact outChunk_read X G B (st c) (st (peer c)) 3 _ _ _ _
    | 4 => exact outChunk_read X G B (st c) (st (peer c)) 4 _ _ _ _
    | 5 => exact outChunk_read X G B (st c) (st (peer c)) 5 _ _ _ _
    | 6 => exact outChunk_read X G B (st c) (st (peer c)) 6 _ _ _ _
    | 7 => exact outChunk_read X G B (st c) (st (peer c)) 7 _ _ _ _))) $$ Ho
  ihave Hs0 := (lend0 c (st c)).2 $$ [Hk0 HaS0_pay1]
  · isplitl [Hk0]; · iexact Hk0
    iexact HaS0_pay1
  ihave Hs1 := (lend1 c (st c)).2 $$ [Hk1 HaS1_pay1]
  · isplitl [Hk1]; · iexact Hk1
    iexact HaS1_pay1
  ihave Hs := (stats_join c _ _) $$ [Hs0 Hs1]
  · isplitl [Hs0]; · iexact Hs0
    iexact Hs1
  ihave Hr := (recv_join c _ _) $$ [HaR0_pay1 HaR1_pay1]
  · isplitl [HaR0_pay1]; · iexact HaR0_pay1
    iexact HaR1_pay1
  rw [wp_ret]
  imod (close st (K (barCell c)) (barCell c)) $$ [HaB] with HB
  · isplitr; · iexact HIb
    iexact HaB
  imod (close st (K (snd0 c)) (snd0 c)) $$ [HaS0] with HS0
  · isplitr; · iexact HIs0
    iexact HaS0
  imod (close st (K (snd1 c)) (snd1 c)) $$ [HaS1] with HS1
  · isplitr; · iexact HIs1
    iexact HaS1
  imod (close st (K (rcv0 c)) (rcv0 c)) $$ [HaR0] with HR0
  · isplitr; · iexact HIr0
    iexact HaR0
  imod (close st (K (rcv1 c)) (rcv1 c)) $$ [HaR1] with HR1
  · isplitr; · iexact HIr1
    iexact HaR1
  imodintro
  iapply Hend
  unfold after localSems
  isplitl [Hx]; · iexact Hx
  isplitl [Hg]; · iexact Hg
  isplitl [Hb]; · iexact Hb
  isplitl [Ho]; · iexact Ho
  isplitl [Hxv]; · iexists _; iexact Hxv
  isplitl [Hgb]; · iexists _; iexact Hgb
  isplitl [Hs]; · iexact Hs
  isplitl [Hr]; · iexact Hr
  isplitl [Hd1 Hd2 Hd3 Hd4 Hd5 Hd6 Hd7 Hd8 Hd9]
  · isplitl [Hd1]; · iexact Hd1
    isplitl [Hd2]; · iexact Hd2
    isplitl [Hd3]; · iexact Hd3
    isplitl [Hd4]; · iexact Hd4
    isplitl [Hd5]; · iexact Hd5
    isplitl [Hd6]; · iexact Hd6
    isplitl [Hd7]; · iexact Hd7
    isplitl [Hd8]; · iexact Hd8
    iexact Hd9
  isplitl [HB]; · iexact HB
  isplitl [HS0]; · iexact HS0
  isplitl [HS1]; · iexact HS1
  isplitl [HR0]; · iexact HR0
  isplitl [HR1]; · iexact HR1
  iexists _; iexact HO

end Cert.KernelIdeal.Swap

end
-- ==== Proof.Region.lean ====
/-
  The kernel's region: what a device holds when it is entered and when it is left, the proof data of its one window (the
  output, one block, the whole array), and the body's obligation, which is `bodyRun`.
-/
module

public import proofs.«01_k».proof.Proof.Body
public import Idealize.ShloMosaic.Lib.Pipeline.Regions
public import Idealize.ShloMosaic.Lib.Pipeline.RegionTalk
public import Idealize.ShloMosaic.Lib.Pipeline.Value
public import Idealize.ShloMosaic.Lib.StableHlo

@[expose] public section

noncomputable section

namespace Cert.KernelIdeal.Swap

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ UU ℕ

variable (m : (ℓ : Loc nD τ sig) → Buf (Elt F) ℓ)

/-! ## What the buffers hold -/

/-- Device `c`'s buffers at launch, and when the region is entered: the two rows reshaped. -/
abbrev V₀ (c : Dev nD) : Valuation τ sig (Elt F) := fun b => m ((c : Dev nD), b)
abbrev V₁ (c : Dev nD) : Valuation τ sig (Elt F) := StableHlo.after hostOps0 (V₀ m c)

/-- Device `c`'s block of x, and its rows of gamma and beta. -/
abbrev xIn (c : Dev nD) : Vec F S4096x1024 .f32 := V₁ m c main_arg0
abbrev gIn (c : Dev nD) : Vec F S1x1024 .f32 := V₁ m c main_v1
abbrev bIn (c : Dev nD) : Vec F S1x1024 .f32 := V₁ m c main_v2
/-- The statistics of the rows of device `c`'s block, -/
def stIn (c : Dev nD) : Stats F := stats (xIn m c)
/-- and the block it computes from its own and its partner's. -/
def outIn (c : Dev nD) : Vec F S4096x1024 .f32 := out (xIn m c) (gIn m c) (bIn m c) (stIn m c) (stIn m (peer c))

/-- Device `c`'s buffers when the region is left. -/
def V₂ (c : Dev nD) : Valuation τ sig (Elt F) := Function.update (V₁ m c) (Proc.devRef .tc main_v3) (outIn m c)
theorem V₂_v3 (c : Dev nD) : V₂ m c main_v3 = outIn m c := Function.update_self ..
theorem V₂_of_ne (c : Dev nD) (b : DevRef τ sig) (h : b ≠ Proc.devRef .tc main_v3) : V₂ m c b = V₁ m c b := Function.update_of_ne h ..

/-- The buffers a device holds throughout: all, and all but the output. -/
abbrev bufs : Finset (DevRef τ sig) := Pipeline.ucRefs τ sig
def ins : Finset (DevRef τ sig) := bufs.erase (Proc.devRef .tc main_v3)

theorem ins_eq (c : Dev nD) (W : Valuation τ sig (Elt F)) : (StableHlo.held (c : Thread nD τ) ins W : sProp 𝕄)
    = iprop(pt c (Memref.whole main_arg0) (W main_arg0) ∗ pt c (Memref.whole main_arg1) (W main_arg1) ∗ pt c (Memref.whole main_arg2) (W main_arg2)
      ∗ pt c (Memref.whole main_v1) (W main_v1) ∗ pt c (Memref.whole main_v2) (W main_v2)) := by
  unfold StableHlo.held
  rw [bigSep_eq_bigSepL_of_eq [Proc.devRef .tc main_arg0, Proc.devRef .tc main_arg1, Proc.devRef .tc main_arg2, Proc.devRef .tc main_v1, Proc.devRef .tc main_v2] (by decide) (by decide)]
  rfl

theorem bufs_eq (c : Dev nD) (W : Valuation τ sig (Elt F)) : (StableHlo.held (c : Thread nD τ) bufs W : sProp 𝕄)
    = iprop(pt c (Memref.whole main_v3) (W main_v3) ∗ StableHlo.held (c : Thread nD τ) ins W) := by
  rw [ins_eq]
  unfold StableHlo.held
  rw [bigSep_eq_bigSepL_of_eq [Proc.devRef .tc main_v3, Proc.devRef .tc main_arg0, Proc.devRef .tc main_arg1, Proc.devRef .tc main_arg2, Proc.devRef .tc main_v1, Proc.devRef .tc main_v2] (by decide) (by decide)]
  rfl

theorem arr_eq (c : Dev nD) (W : Valuation τ sig (Elt F)) : (StableHlo.held (c : Thread nD τ) (Pipeline.arrRefs (τ := τ) (pcfgs (F := F) 0).spec) W : sProp 𝕄)
    = pt c (Memref.whole main_v3) (W main_v3) := by
  unfold StableHlo.held Pipeline.arrRefs
  rw [Finset.univ_unique, Finset.image_singleton, Finset.map_singleton, bigSep_singleton]
  rfl

/-! ## What enters and leaves the invariant -/

/-- The kernel's own semaphores: those of the copies inside the device, then the four shared cells. -/
abbrev osem : Fin 13 → SemLoc sig := fun k => .dma k.succ

theorem ownSems_eq (c : Dev nD) : (Pipeline.ownSems0 osem c : sProp 𝕄)
    = iprop(semVal ((c : Thread nD τ), .dma 1) 0 ∗ semVal ((c : Thread nD τ), .dma 2) 0 ∗ semVal ((c : Thread nD τ), .dma 3) 0 ∗ semVal ((c : Thread nD τ), .dma 4) 0
      ∗ semVal ((c : Thread nD τ), .dma 5) 0 ∗ semVal ((c : Thread nD τ), .dma 6) 0 ∗ semVal ((c : Thread nD τ), .dma 7) 0 ∗ semVal ((c : Thread nD τ), .dma 8) 0 ∗ semVal ((c : Thread nD τ), .dma 9) 0
      ∗ semVal (snd0 c) 0 ∗ semVal (snd1 c) 0 ∗ semVal (rcv0 c) 0 ∗ semVal (rcv1 c) 0) :=
  bigSep_univ_eq_bigSepL [0, 1, 2, 3, 4, 5, 6, 7, 8, 9, 10, 11, 12] (by decide) (by decide) _

/-- What a device holds of the protocol from launch to the region: its cells' invariants, its position at the barrier cell,
    the right to open its four other cells, and the tokens of the duties it fulfils; and the credits. -/
def ghost (K : GSem nD τ sig → ℕ) (c : Dev nD) : sProp 𝕄 :=
  iprop(invs (stIn m) K c ∗ atPos ER (barCell c) 0 ∅ 0
    ∗ (openTok ER (snd0 c) ∗ openTok ER (snd1 c) ∗ openTok ER (rcv0 c) ∗ openTok ER (rcv1 c)) ∗ reached ER (barCell (peer c)) 0
    ∗ (dutyTok ER (barCell (peer c)) 0 () ∗ dutyTok ER (snd0 c) 0 () ∗ dutyTok ER (snd1 c) 0 () ∗ dutyTok ER (rcv0 (peer c)) 0 () ∗ dutyTok ER (rcv1 (peer c)) 0 ()))
def Tk (c : Dev nD) : sProp 𝕄 := iprop((∃ K, ghost m K c) ∗ credits c)

/-- What enters the body's invariant, its cells opened; -/
def Xk (c : Dev nD) : sProp 𝕄 := iprop((∃ K, invs (stIn m) K c) ∗ opened c ∗ credits c ∗ localSems c ∗ levAts L lv)
/-- what leaves it for the end of the program. -/
def Yk (c : Dev nD) : sProp 𝕄 := semVal (barCell c) 0

theorem hopen (c : Dev nD) : iprop(Tk m c ∗ Pipeline.ownSems0 osem c ∗ levAts L lv) ⊢ (|={Set.univ}=> Xk m c : sProp 𝕄) := by
  rw [ownSems_eq]
  unfold Tk Xk ghost invs
  iintro ⟨⟨⟨%K, ⟨#HIb, #HIbP, #HIs0, #HIs1, #HIr0, #HIr1, #HIr0P, #HIr1P⟩, HaB, ⟨HoS0, HoS1, HoR0, HoR1⟩, #HrB, HT⟩, HC⟩, ⟨H1, H2, H3, H4, H5, H6, H7, H8, H9, Hs0, Hs1, Hr0, Hr1⟩, #Hlev⟩
  imod (Rounds.cell_open ER (talkRd (stIn m)) (g := snd0 c) (Set.mem_univ (K (snd0 c)))) $$ [HoS0 Hs0] with ⟨HaS0, #HeS0⟩
  · isplitr; · iexact HIs0
    isplitl [HoS0] <;> iassumption
  imod (Rounds.cell_open ER (talkRd (stIn m)) (g := snd1 c) (Set.mem_univ (K (snd1 c)))) $$ [HoS1 Hs1] with ⟨HaS1, #HeS1⟩
  · isplitr; · iexact HIs1
    isplitl [HoS1] <;> iassumption
  imod (Rounds.cell_open ER (talkRd (stIn m)) (g := rcv0 c) (Set.mem_univ (K (rcv0 c)))) $$ [HoR0 Hr0] with ⟨HaR0, #HeR0⟩
  · isplitr; · iexact HIr0
    isplitl [HoR0] <;> iassumption
  imod (Rounds.cell_open ER (talkRd (stIn m)) (g := rcv1 c) (Set.mem_univ (K (rcv1 c)))) $$ [HoR1 Hr1] with ⟨HaR1, #HeR1⟩
  · isplitr; · iexact HIr1
    isplitl [HoR1] <;> iassumption
  imodintro
  isplitr
  · iexists K
    isplitr; · iexact HIb
    isplitr; · iexact HIbP
    isplitr; · iexact HIs0
    isplitr; · iexact HIs1
    isplitr; · iexact HIr0
    isplitr; · iexact HIr1
    isplitr; · iexact HIr0P
    iexact HIr1P
  isplitl [HaB HaS0 HaS1 HaR0 HaR1 HT]
  · unfold opened
    isplitl [HaB HaS0 HaS1 HaR0 HaR1]
    · isplitl [HaB]; · iexact HaB
      isplitl [HaS0]; · iexact HaS0
      isplitl [HaS1]; · iexact HaS1
      isplitl [HaR0] <;> iassumption
    isplitr
    · isplitr; · iexact HrB
      isplitr; · iexact HeS0
      isplitr; · iexact HeS1
      isplitr; · iexact HeR0
      iexact HeR1
    iexact HT
  isplitl [HC]; · iexact HC
  isplitr [Hlev]
  · unfold localSems
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8] <;> iassumption
  iexact Hlev

/-! ## The proof data -/

/-- The four scratch buffers, at contents not chosen. -/
def scratch (c : Dev nD) : sProp 𝕄 :=
  iprop((∃ f, pt c (Memref.whole cc0_scratch0) f) ∗ (∃ f, pt c (Memref.whole cc0_scratch1) f) ∗ (∃ f, pt c (Memref.whole cc0_scratch2) f) ∗ (∃ f, pt c (Memref.whole cc0_scratch3) f))

theorem scopedRest_scratch (c : Dev nD) : (Pipeline.scopedRest (Ix := Unit) (Name := ℕ) (U := UU) (Lvl := ℕ) (Val := Elt F) spec0 c : sProp 𝕄) = scratch c :=
  scopedRest0_eq c

/-- The body's invariant: before the one point and after it. -/
def Φ₀ (c : Dev nD) : sProp 𝕄 := iprop(scratch c ∗ (∃ r, prngReg c r) ∗ StableHlo.held (c : Thread nD τ) ins (V₁ m c) ∗ Xk m c)
def Φ₁ (c : Dev nD) : sProp 𝕄 := iprop(scratch c ∗ (∃ r, prngReg c r) ∗ StableHlo.held (c : Thread nD τ) ins (V₂ m c) ∗ Pipeline.ownSems0 osem c ∗ Yk c)

def dat (c : Dev nD) : Dat τ (Elt F) Unit ℕ UU ℕ cfg0 c where
  A w := match w with | ⟨0, _⟩ => V₁ m c main_v3
  after w _ := match w with | ⟨0, _⟩ => outIn m c
  Φ t := match t with | ⟨0, _⟩ => Φ₀ m c | ⟨_ + 1, _⟩ => Φ₁ m c
  q _ := fullShare
  owed t := match t with | ⟨0, _⟩ => O₀ c | ⟨_ + 1, _⟩ => 0

abbrev adm : (p : Fin 1) → (pcfgs (F := F) p).Adm := fun p => (cfgs p).toPCfg_adm
def pdats : (p : Fin 1) → (c : Dev nD) → Dat τ (Elt F) Unit ℕ UU ℕ (Pipeline.pin (pcfgs (F := F)) adm p) c
  | 0 => dat m

/-- The output's one block is the whole array, -/
theorem blk_emb (t : Fin cfg0.N) (i : S4096x1024.Idx) : ((cfg0.win 0).blk t).view.emb i = i :=
  funext fun a => Fin.ext (by show 0 * _ + 1 * (i a).val = (i a).val; omega)

/-- so after the region the array holds the block the body left. -/
theorem final_v3 (c : Dev nD) : (dat m c).arrAt 0 cfg0.N = outIn m c := by
  refine (dat m c).arrAt_eq_of_cover 0 (outIn m c) (fun t _ => ?_) (fun i => ⟨t0_0, flush0_0 _, ?_⟩)
  · funext j
    exact congrArg (outIn m c) (blk_emb t j).symm
  · exact Finset.mem_map.2 ⟨i, Finset.mem_univ _, blk_emb t0_0 i⟩

/-! ## The body's obligation -/

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

set_option maxRecDepth 40000 in
theorem body_obligation (c : Dev nD) : BodyObligation (dat (F := F) m c) (defs₀ (F := F)) Variants.none () Set.univ := fun t => by
  obtain rfl := fin_N0 t
  rw [bigSep_W0, bigSep_W0]
  show iprop(Φ₀ m c ∗ (dat m c).owesAt () t0_0.castSucc ∗ ∃ d, owns (c : Thread nD τ) (Memref.whole cc0_stg0_0) fullShare ((dat m c).before 0 t0_0 d))
    ⊢ wp frame (wpE (defs₀ (F := F)) Variants.none c none) Set.univ (body (F := F))
      (fun _ => iprop(Φ₁ m c ∗ (dat m c).owesAt () t0_0.succ ∗ owns (c : Thread nD τ) (Memref.whole cc0_stg0_0) fullShare (outIn m c)))
  simp only [owns_whole_eq]
  unfold Φ₀ Φ₁ Xk Yk scratch Dat.owesAt Pipeline.owesWithin
  rw [ins_eq, ins_eq, ownSems_eq, show (dat m c).owed t0_0.castSucc = O₀ c from rfl, show (dat m c).owed t0_0.succ = 0 from rfl]
  iintro ⟨⟨⟨⟨%xv, Hxv⟩, ⟨%gb, Hgb⟩, ⟨%s, Hs⟩, ⟨%r, Hr⟩⟩, Hp, ⟨Hx, Ha1, Ha2, Hg, Hb⟩, ⟨%K, #HI⟩, HOp, HC, HL, #Hlev⟩, ⟨%W, -, HO⟩, ⟨%d, %o, -, Ho⟩⟩
  iapply (bodyRun (stIn m) K c (xIn m c) (gIn m c) (bIn m c) o xv gb s r W _ rfl)
  isplitl [Hx]; · iexact Hx
  isplitl [Hg]; · iexact Hg
  isplitl [Hb]; · iexact Hb
  isplitl [Ho]; · iexact Ho
  isplitl [Hxv]; · iexact Hxv
  isplitl [Hgb]; · iexact Hgb
  isplitl [Hs]; · iexact Hs
  isplitl [Hr]; · iexact Hr
  isplitl [HL]; · iexact HL
  isplitr; · iexact Hlev
  isplitr; · iexact HI
  isplitl [HOp]; · iexact HOp
  isplitl [HC]; · iexact HC
  isplitl [HO]; · iexact HO
  unfold after localSems
  iintro ⟨Hx, Hg, Hb, Ho, Hxv, Hgb, Hs, Hr, ⟨H1, H2, H3, H4, H5, H6, H7, H8, H9⟩, HB, HS0, HS1, HR0, HR1, ⟨%W', HO⟩⟩
  isplitr [HO Ho]
  · isplitl [Hxv Hgb Hs Hr]
    · isplitl [Hxv]; · iexact Hxv
      isplitl [Hgb]; · iexact Hgb
      isplitl [Hs] <;> iassumption
    isplitl [Hp]; · iexact Hp
    isplitl [Hx Ha1 Ha2 Hg Hb]
    · isplitl [Hx]; · iexact Hx
      isplitl [Ha1]; · iexact Ha1
      isplitl [Ha2]; · iexact Ha2
      isplitl [Hg]; · iexact Hg
      iexact Hb
    isplitr [HB]
    · isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [HS0]; · iexact HS0
      isplitl [HS1]; · iexact HS1
      isplitl [HR0] <;> iassumption
    iexact HB
  isplitl [HO]
  · iexists W'
    isplitr; · ipureintro; exact fun _ _ => Or.inl trivial
    iexact HO
  iexists _; isplitr; · (ipureintro; rfl)
  iexact Ho

end Cert.KernelIdeal.Swap

end
-- ==== Proof.Launch.lean ====
/-
  The program on the four devices: two host operations reshape gamma and beta to rows, then the region runs. At launch the
  cells' invariants are allocated, and every device gets its positions, the right to open its copy cells, the tokens of the
  duties it fulfils at its partner's cells, and its credits.
-/
module

public import proofs.«01_k».proof.Proof.Region
public import Idealize.ShloMosaic.Lib.Quiescent

@[expose] public section

noncomputable section

namespace Cert.KernelIdeal.Swap

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## The two segments -/

/-- What a device holds beside its buffers up to the region. -/
def R (c : Dev nD) : sProp 𝕄 := iprop(Tk m c ∗ (∃ r, prngReg c r) ∗ ∃ W, owes (c : Thread nD τ) (O₀ c) W)

/-- The two reshapes. -/
def seg0 : Pipeline.HostSeg (Ix := Unit) (Name := ℕ) (U := UU) (Lvl := ℕ) (pcfgs (F := F)) defs₀ Variants.none L lv :=
  Pipeline.HostSeg.ofOps _ _ _ _ _ bufs hostOps0 (fun op h => Pipeline.sub_ucRefs op (List.forall_iff_forall_mem.mp hostOps0_sub op h))
    (fun op h => List.forall_iff_forall_mem.mp hostOps0_fresh op h) (V₀ m) (R m)

theorem hin (c : Dev nD) : iprop(Pipeline.scopedRest (Pipeline.pin (pcfgs (F := F)) adm 0).spec c ∗ (∃ r, prngReg c r) ∗ StableHlo.held (c.tc : Thread nD τ) ins (V₁ m c) ∗ Xk m c)
    ⊢ (pdats m 0 c).Φ 0 := by
  show iprop(Pipeline.scopedRest (Ix := Unit) (Name := ℕ) (U := UU) (Lvl := ℕ) (Val := Elt F) spec0 c ∗ _) ⊢ Φ₀ m c
  rw [scopedRest_scratch]
  exact .rfl

theorem hout (c : Dev nD) : (pdats m 0 c).Φ (Fin.last (Pipeline.pin (pcfgs (F := F)) adm 0).N)
    ⊢ iprop(Pipeline.scopedRest (Pipeline.pin (pcfgs (F := F)) adm 0).spec c ∗ (∃ r, prngReg c r) ∗ StableHlo.held (c.tc : Thread nD τ) ins (V₂ m c) ∗ Pipeline.ownSems0 osem c ∗ Yk c) := by
  show Φ₁ m c ⊢ iprop(Pipeline.scopedRest (Ix := Unit) (Name := ℕ) (U := UU) (Lvl := ℕ) (Val := Elt F) spec0 c ∗ _)
  rw [scopedRest_scratch]
  exact .rfl

/-- The staging buffer's cell lies below everything owed. -/
theorem cut : Pipeline.LevelCutOwed (pcfgs (F := F)) adm (pdats m) () L lv 0 (fun _ => 0) where
  hι c w s := by rw [L_tc]; exact Finset.mem_singleton_self _
  hιb c w s := by
    match w with
    | ⟨0, _⟩ => exact Nat.le_of_eq (by decide +revert : lv ((c : Thread nD τ), .dma (sem0_0 0)) () = 0)
  hD c t g i h := by
    match t, h with
    | ⟨0, _⟩, h => obtain ⟨h1, h2⟩ := owed_O₀ c g i h; exact ⟨by unfold L; rw [if_pos h1]; exact Finset.mem_singleton_self _, h2⟩
    | ⟨_ + 1, _⟩, h => exact absurd h (Nat.lt_irrefl 0)

set_option backward.isDefEq.respectTransparency.types false in
def reg0 : Pipeline.RegionSeg (pcfgs (F := F)) adm (pdats m) () defs₀ Variants.none L lv 0 :=
  Pipeline.RegionSeg.ofTalk (pcfgs (F := F)) adm (pdats m) () defs₀ Variants.none L lv 0 osem (by decide : Pipeline.OwnSemFacts spec0 osem)
    ins ins (Finset.Subset.refl _) launch0.toP rfl (fun c => (body_obligation m c).loose)
    (fun _ => 0) O₀ (fun c => (zero_add _).symm) (fun c => rfl) (fun _ => rfl) (fun _ w => by match w with | ⟨0, _⟩ => rfl)
    (V₁ m) (V₂ m) (fun _ b hb => absurd hb (by rw [Finset.sdiff_self]; exact Finset.notMem_empty b))
    (Tk m) Yk (Xk m) Yk (hopen m) (hin m) (hout m)
    (fun c => by iintro H; imodintro; iexact H)
    (fun _ => 0) (cut m)
    (fun _ => iprop(emp))
    (fun c w => by match w with | ⟨0, _⟩ => rfl)
    (fun c w => by match w with | ⟨0, _⟩ => exact (final_v3 m c).trans (V₂_v3 m c).symm)

theorem reg0_pre (c : Dev nD) : iprop(StableHlo.held (c : Thread nD τ) bufs (V₁ m c) ∗ R m c) ⊢ (reg0 m).pre c := by
  show _ ⊢ iprop(StableHlo.held (c.tc : Thread nD τ) (Pipeline.arrRefs (τ := τ) (pcfgs (F := F) 0).spec) (V₁ m c) ∗ (∃ r, prngReg c r)
    ∗ (StableHlo.held (c.tc : Thread nD τ) ins (V₁ m c) ∗ emp) ∗ Tk m c ∗ ∃ Wd, owes (c : Thread nD τ) (0 + O₀ c) Wd)
  rw [arr_eq, bufs_eq, zero_add]
  unfold R
  iintro ⟨⟨Ho, Hh⟩, HT, Hp, HO⟩
  isplitl [Ho]; · iexact Ho
  isplitl [Hp]; · iexact Hp
  isplitl [Hh]
  · isplitl [Hh]; · iexact Hh
    iempintro
  isplitl [HT] <;> iassumption

/-- What a device holds at the end. -/
abbrev Tₙ (c : Dev nD) : sProp 𝕄 := iprop(StableHlo.held (c : Thread nD τ) bufs (V₂ m c) ∗ Yk c)

theorem reg0_post (c : Dev nD) : (reg0 m).post c ⊢ iprop(Tₙ m c ∗ ∃ W, owes (c : Thread nD τ) (0 : CellTallies nD τ sig Unit) W) := by
  show iprop(StableHlo.held (c.tc : Thread nD τ) (Pipeline.arrRefs (τ := τ) (pcfgs (F := F) 0).spec) (V₂ m c) ∗ (∃ r, prngReg c r)
    ∗ (StableHlo.held (c.tc : Thread nD τ) ins (V₂ m c) ∗ emp) ∗ Yk c ∗ ∃ Wd, owes (c : Thread nD τ) (0 : CellTallies nD τ sig Unit) Wd) ⊢ _
  unfold Tₙ
  rw [arr_eq, bufs_eq]
  iintro ⟨Ho, -, ⟨Hh, -⟩, HY, HO⟩
  isplitr [HO]
  · isplitl [Ho Hh]
    · isplitl [Ho] <;> iassumption
    iexact HY
  iexact HO

def segs : List (Pipeline.Seg (pcfgs (F := F)) adm (pdats m) () defs₀ Variants.none L lv) := [.host (seg0 m), .region (reg0 m)]

/-! ## The cells and the tokens -/

/-- The semaphores of a device's four copy cells, and of its five shared cells. -/
abbrev copySem : Fin 4 → SemLoc sig := ![.dma 10, .dma 11, .dma 12, .dma 13]
abbrev talkSem : Fin 5 → SemLoc sig := Fin.cons (.reg barrier0) copySem

/-- A device and one of several semaphores name a cell, different ones different cells. -/
def cellEmb {n : ℕ} (s : Fin n → SemLoc sig) (hs : Function.Injective s) : Dev nD × Fin n ↪ GSem nD τ sig :=
  ⟨fun ck => ((ck.1 : Thread nD τ), s ck.2), fun _ _ h => Prod.ext (congrArg (fun g : GSem nD τ sig => g.1.1) h) (hs (congrArg Prod.snd h))⟩

def barEmb : Dev nD ↪ GSem nD τ sig := ⟨barCell, fun _ _ h => congrArg (fun g : GSem nD τ sig => g.1.1) h⟩
def copyEmb : Dev nD × Fin 4 ↪ GSem nD τ sig := cellEmb copySem (by decide)
def tokEmb : Dev nD × Fin 5 ↪ GSem nD τ sig × ℕ × Unit :=
  (cellEmb talkSem (by decide)).trans ⟨fun g => (g, 0, ()), fun _ _ h => congrArg Prod.fst h⟩

abbrev barCells : Finset (GSem nD τ sig) := Finset.univ.map barEmb
abbrev copyCells : Finset (GSem nD τ sig) := Finset.univ.map copyEmb
/-- One token a shared cell. -/
def talkToks : Finset (GSem nD τ sig × ℕ × Unit) := Finset.univ.map tokEmb

theorem copySem_ne_bar : ∀ k : Fin 4, copySem k ≠ .reg barrier0 := by decide

theorem disjoint_cells : Disjoint (barCells : Finset (GSem nD τ sig)) copyCells := by
  rw [Finset.disjoint_left]
  intro g h₁ h₂
  obtain ⟨c, -, rfl⟩ := Finset.mem_map.mp h₁
  obtain ⟨ck, -, h⟩ := Finset.mem_map.mp h₂
  exact copySem_ne_bar ck.2 (congrArg Prod.snd h)

theorem bar_mem (c : Dev nD) : barCell c ∈ (barCells ∪ copyCells : Finset (GSem nD τ sig)) :=
  Finset.mem_union_left _ (Finset.mem_map_of_mem barEmb (Finset.mem_univ c))
theorem copy_mem (c : Dev nD) (k : Fin 4) : ((c : Thread nD τ), copySem k) ∈ (barCells ∪ copyCells : Finset (GSem nD τ sig)) :=
  Finset.mem_union_right _ (Finset.mem_map_of_mem copyEmb (Finset.mem_univ (c, k)))

/-- What is launched: the pipeline's cells, the protocol's, no counter. -/
abbrev launched : UR sig nD τ := launchOf barCells copyCells talkToks
def u₀ : UU :=
  (initOf (Pipeline.cells (Pipeline.pin (pcfgs (F := F)) adm) cellOf_inj) (Pipeline.launchToks (Pipeline.pin (pcfgs (F := F)) adm) cellOf_inj),
    (launched, 1))

/-- The protocol's launch element is dealt from one device. -/
def G (c : Dev nD) : sProp 𝕄 := if c = 0 then BI.own (ER launched) else iprop(emp)
theorem bigSep_G : bigSep Finset.univ (G (F := F)) = BI.own (ER launched) := by
  rw [bigSep_univ_at _ (0 : Dev nD), bigSep_congr (s := Finset.univ.erase (0 : Dev nD)) (Ψ := fun _ => (BI.emp : sProp 𝕄))
      fun c hc => by unfold G; rw [if_neg (Finset.ne_of_mem_erase hc)]; rfl, BI.bigSep_emp_const]
  exact (BI.equiv_iff.mp sep_emp).trans (if_pos rfl)

/-! ## What each device is dealt -/

/-- What all devices share: the invariants, and that every barrier cell is fresh. -/
def records (κ : GSem nD τ sig → ℕ) : sProp 𝕄 :=
  iprop((bigSep (barCells ∪ copyCells) fun g => cellInv ER (talkRd (stIn m)) (κ g) g) ∗ bigSep barCells fun g => reached ER g 0)

instance records_persistent (κ : GSem nD τ sig → ℕ) : BI.Persistent (records m κ) := by unfold records; infer_instance

theorem inv_at (κ : GSem nD τ sig → ℕ) {g : GSem nD τ sig} (hg : g ∈ (barCells ∪ copyCells : Finset (GSem nD τ sig))) :
    records m κ ⊢ cellInv ER (talkRd (stIn m)) (κ g) g := by
  unfold records
  iintro ⟨#HI, -⟩
  iapply (show (bigSep (barCells ∪ copyCells) fun g => (cellInv ER (talkRd (stIn m)) (κ g) g : sProp 𝕄)) ⊢ _ from bigSep_elim hg); iexact HI
theorem fresh_at (κ : GSem nD τ sig → ℕ) (c : Dev nD) : records m κ ⊢ reached ER (barCell c) 0 := by
  unfold records
  iintro ⟨-, #HR⟩
  iapply (show (bigSep barCells fun g => (reached ER g 0 : sProp 𝕄)) ⊢ reached ER (barCell c) 0 from
    bigSep_elim (Finset.mem_map_of_mem barEmb (Finset.mem_univ c))); iexact HR

/-- What one device alone gets. -/
def opens (c : Dev nD) : sProp 𝕄 := iprop(openTok ER (snd0 c) ∗ openTok ER (snd1 c) ∗ openTok ER (rcv0 c) ∗ openTok ER (rcv1 c))
def toks (b s r : Dev nD) : sProp 𝕄 :=
  iprop(dutyTok ER (barCell b) 0 () ∗ dutyTok ER (snd0 s) 0 () ∗ dutyTok ER (snd1 s) 0 () ∗ dutyTok ER (rcv0 r) 0 () ∗ dutyTok ER (rcv1 r) 0 ())
def bundle (c : Dev nD) : sProp 𝕄 :=
  iprop(StableHlo.held (c : Thread nD τ) bufs (V₀ m c) ∗ credits c ∗ owes (c : Thread nD τ) (O₀ c) ∅ ∗ ∃ r, prngReg c r)

theorem start (κ : GSem nD τ sig → ℕ) (c : Dev nD) :
    iprop(records m κ ∗ (atPos ER (barCell c) 0 ∅ 0 ∗ opens c ∗ toks (peer c) c (peer c)) ∗ bundle m c)
      ⊢ iprop(StableHlo.held (c : Thread nD τ) bufs (V₀ m c) ∗ R m c) := by
  unfold opens toks bundle R Tk ghost invs
  iintro ⟨#HR, ⟨HaB, HoT, HT⟩, Hh, HC, HO, Hp⟩
  isplitl [Hh]; · iexact Hh
  isplitl [HaB HoT HT HC]
  · isplitr [HC]
    · iexists κ
      isplitr
      · isplitr; · iapply (inv_at m κ (bar_mem c)); iexact HR
        isplitr; · iapply (inv_at m κ (bar_mem (peer c))); iexact HR
        isplitr; · iapply (inv_at m κ (copy_mem c 0)); iexact HR
        isplitr; · iapply (inv_at m κ (copy_mem c 1)); iexact HR
        isplitr; · iapply (inv_at m κ (copy_mem c 2)); iexact HR
        isplitr; · iapply (inv_at m κ (copy_mem c 3)); iexact HR
        isplitr; · iapply (inv_at m κ (copy_mem (peer c) 2)); iexact HR
        iapply (inv_at m κ (copy_mem (peer c) 3)); iexact HR
      isplitl [HaB]; · iexact HaB
      isplitl [HoT]; · iexact HoT
      isplitr; · iapply (fresh_at m κ (peer c)); iexact HR
      iexact HT
    iexact HC
  isplitl [Hp]; · iexact Hp
  iexists ∅; iexact HO

theorem toks_eq : bigSep talkToks (fun x => (dutyTok ER x.1 x.2.1 x.2.2 : sProp 𝕄)) = bigSep Finset.univ fun c : Dev nD => toks c c c := by
  unfold talkToks
  rw [bigSep_map, bigSep_univ_prod]
  exact bigSep_congr fun c _ => (bigSep_univ_eq_bigSepL [0, 1, 2, 3, 4] (by decide) (by decide) _).trans rfl

theorem opens_eq : bigSep copyCells (fun g => (openTok ER g : sProp 𝕄)) = bigSep Finset.univ fun c : Dev nD => opens c := by
  rw [bigSep_map, bigSep_univ_prod]
  exact bigSep_congr fun c _ => (bigSep_univ_eq_bigSepL [0, 1, 2, 3] (by decide) (by decide) _).trans rfl

/-- The tokens of a device's barrier and receive cells go to its partner, who fulfils those duties. -/
theorem toks_swap : (bigSep Finset.univ fun c : Dev nD => (toks c c c : sProp 𝕄)) = bigSep Finset.univ fun c : Dev nD => toks (peer c) c (peer c) := by
  unfold toks
  simp only [bigSep_sep']
  rw [bigSep_univ_equiv swap (fun c : Dev nD => (dutyTok ER (barCell c) 0 () : sProp 𝕄)),
    bigSep_univ_equiv swap (fun c : Dev nD => (dutyTok ER (rcv0 c) 0 () : sProp 𝕄)),
    bigSep_univ_equiv swap (fun c : Dev nD => (dutyTok ER (rcv1 c) 0 () : sProp 𝕄))]
  rfl

/-! ## The credits -/

/-- What device `d` owes at a cell of device `c` because of a due at its partner's cell. -/
theorem due_at (d c : Dev nD) (s s' : SemLoc sig) (n : ℕ) :
    (tallyAt ((peer d : Thread nD τ), s') () n : CellTallies nD τ sig Unit) ((c : Thread nD τ), s) () = if d = peer c then (if s = s' then n else 0) else 0 := by
  rw [tallyAt_apply]
  by_cases h : d = peer c
  · subst h
    rw [peer_peer, if_pos rfl]
    by_cases hs : s = s'
    · subst hs; rw [if_pos ⟨rfl, rfl⟩, if_pos rfl]
    · rw [if_neg fun h => hs (congrArg Prod.snd h.1), if_neg hs]
  · rw [if_neg h, if_neg fun e => h (by rw [← peer_peer d]; exact congrArg peer (congrArg (fun g : GSem nD τ sig => g.1.1) e.1).symm)]

theorem owed_at (c : Dev nD) (s : SemLoc sig) : launchCredit (Pipeline.owing O₀) 0 ((c : Thread nD τ), s) ()
    = (if s = .dma 13 then N else 0) + (if s = .dma 12 then N else 0) + (if s = .reg barrier0 then 1 else 0) := by
  rw [Pipeline.launchCredit_owing, Finset.sum_congr rfl fun d _ => show O₀ d ((c : Thread nD τ), s) () = if d = peer c then _ else 0 from by
    show tallyAt _ () N _ () + tallyAt _ () N _ () + tallyAt _ () 1 _ () = _
    rw [due_at, due_at, due_at]
    split
    · rfl
    · rfl]
  rw [Finset.sum_ite_eq' Finset.univ (peer c) fun _ => _, if_pos (Finset.mem_univ _)]

theorem credit_at (c : Dev nD) (s : SemLoc sig) (n : ℕ)
    (h : (if s = .dma 13 then N else 0) + (if s = .dma 12 then N else 0) + (if s = .reg barrier0 then 1 else 0) = n) :
    tallyOn ((c : Thread nD τ), s) (launchCredit (Pipeline.owing O₀) 0 ((c : Thread nD τ), s)) = (tallyAt ((c : Thread nD τ), s) () n : CellTallies nD τ sig Unit) := by
  unfold tallyAt
  refine congrArg _ (Finsupp.ext fun u => ?_)
  cases u
  rw [owed_at, Finsupp.single_eq_same, h]

theorem creds (c : Dev nD) : (Pipeline.launchCred O₀ c : sProp 𝕄) ⊢ credits c := by
  unfold Pipeline.launchCred credits
  refine (bigSep_subset (Finset.subset_univ {SemLoc.reg barrier0, SemLoc.dma 12, SemLoc.dma 13})).trans ?_
  rw [bigSep_insert (by decide), bigSep_insert (by decide), bigSep_singleton, credit_at c (.reg barrier0) 1 rfl,
    credit_at c (.dma 12) N (by simp), credit_at c (.dma 13) N (by simp)]
  exact BI.Entails.refl _

/-! ## The launch and the run -/

theorem unscopedSems0_eq (c : Dev nD) : (unscopedSems0 c : sProp 𝕄) = semVal (barCell c) 0 := by
  unfold unscopedSems0
  rw [show (Finset.univ.filter fun sm : SemLoc sig => ¬ sm.isScoped .tc) = {SemLoc.reg barrier0} from by decide, BI.bigSep_singleton]
theorem unscoped_eq : ∀ sm : SemLoc sig, sm.isScoped .tc = false → sm = .reg barrier0 := by decide

theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ fun c : Dev nD => iprop(StableHlo.held (c : Thread nD τ) bufs (V₀ m c) ∗ R m c) : sProp 𝕄) := by
  have hcore (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ G c)
      ⊢ (iprop(bundle m c ∗ semVal (barCell c) 0 ∗ G c) : sProp 𝕄) := by
    rw [show unscopedBufs c (fun b => m ((c : Thread nD τ).loc b)) = StableHlo.held (c : Thread nD τ) bufs (V₀ m c) from Pipeline.unscopedBufs_held c (V₀ m c),
      unscopedSems0_eq]
    unfold bundle
    iintro ⟨Hh, Hs, HO, HC, Hp, HG⟩
    ihave HC := (creds (F := F) c) $$ HC
    isplitl [Hh HC HO Hp]
    · isplitl [Hh]; · iexact Hh
      isplitl [HC]; · iexact HC
      isplitl [HO]; · iexact HO
      iexists (ρ c); iexact Hp
    isplitl [Hs] <;> iassumption
  have hsplit : (bigSep Finset.univ fun c : Dev nD => iprop(unscopedBufs c (fun b => m ((c : Thread nD τ).loc b)) ∗ unscopedSems0 c
        ∗ owes (c : Thread nD τ) (O₀ c) ∅ ∗ Pipeline.launchCred O₀ c ∗ prngReg c (ρ c) ∗ G c))
      ⊢ (iprop(bigSep Finset.univ (bundle m) ∗ (bigSep barCells fun g => semVal g 0) ∗ BI.own (ER launched)) : sProp 𝕄) := by
    refine (bigSep_mono fun c _ => hcore c).trans ?_
    rw [bigSep_sep', bigSep_sep', bigSep_G, bigSep_map]
    exact BI.Entails.refl _
  have hjoin : iprop((bigSep barCells fun g => (atPos ER g 0 ∅ 0 : sProp 𝕄)) ∗ (bigSep copyCells fun g => openTok ER g)
        ∗ (bigSep talkToks fun x => dutyTok ER x.1 x.2.1 x.2.2) ∗ bigSep Finset.univ (bundle m))
      ⊢ (bigSep Finset.univ fun c : Dev nD => iprop((atPos ER (barCell c) 0 ∅ 0 ∗ opens c ∗ toks (peer c) c (peer c)) ∗ bundle m c) : sProp 𝕄) := by
    rw [bigSep_sep', bigSep_sep', bigSep_sep', opens_eq, toks_eq, toks_swap, bigSep_map]
    iintro ⟨H1, H2, H3, H4⟩
    isplitr [H4]
    · isplitl [H1]; · iexact H1
      isplitl [H2] <;> iassumption
    iexact H4
  iintro ⟨H, -⟩
  ihave H := hsplit $$ H
  icases H with ⟨HB, Hv, Hu⟩
  imod (Rounds.fund_launch ER (talkRd (stIn m)) disjoint_cells (fun g _ h => h) talkToks) $$ [Hv Hu] with ⟨%κ, -, #Hinv, #Hr, Hat, Hopen, Htok⟩
  · isplitl [Hv] <;> iassumption
  imodintro
  iapply (bigSep_with_persistent (R := records m κ) (fun c _ => start m κ c))
  isplitr
  · unfold records
    isplitr; · iexact Hinv
    iexact Hr
  iapply hjoin
  isplitl [Hat]; · iexact Hat
  isplitl [Hopen]; · iexact Hopen
  isplitl [Htok] <;> iassumption

set_option backward.isDefEq.respectTransparency.types false in
/-- Every fair run of the program from any memory, all counters at zero, ends; then each device's output array holds
    `outIn`, its arguments are unchanged, and all counters are at zero. -/
theorem run_main : θ_run defs (onTc (τ := τ) (main (F := F))) ⟨m, fun _ => 0, ρ⟩
    (fun r => (∀ c : Dev nD, r.2.mem ((c : Thread nD τ).loc main_v3) = outIn m c
        ∧ r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)) ∧ r.2.sem = fun _ => 0) :=
  Pipeline.θ_run_regions_kit_sems (pcfgs (F := F)) adm (pdats m) () cellOf_inj EP defs₀ Variants.none L lv m ρ main (segs m)
    (fun c Q => by rw [main_segs adm (pdats m) () Variants.none L lv (seg0 m) (reg0 m) rfl c]; rfl)
    (by simp only [segs, Pipeline.Seg.pipes_host, Pipeline.Seg.pipes_region, Pipeline.Seg.pipes_nil]; decide)
    (O₀ := O₀) (hL := L_of_ne) (G := G) (u₀ := u₀)
    (hu₀ := by
      unfold u₀
      rw [bigSep_G]
      iintro Hu
      ihave H := (ownU_pair _ _) $$ Hu
      icases H with ⟨HP, HX⟩
      ihave H := (own_pair_emb embR _ _) $$ HX
      icases H with ⟨HX, -⟩
      imodintro
      isplitl [HP]; · iexact HP
      iexact HX)
    (T₀ := fun c => iprop(StableHlo.held (c : Thread nD τ) bufs (V₀ m c) ∗ R m c)) (Tₙ := Tₙ m)
    (hch := ⟨fun c => .rfl, fun c => reg0_pre m c, fun c => reg0_post m c⟩)
    (hinit := init m ρ)
    (QY := fun c s => (s.mem ((c : Thread nD τ).loc main_v3) = V₂ m c main_v3
        ∧ s.mem ((c : Thread nD τ).loc main_arg0) = V₂ m c main_arg0 ∧ s.mem ((c : Thread nD τ).loc main_arg1) = V₂ m c main_arg1
        ∧ s.mem ((c : Thread nD τ).loc main_arg2) = V₂ m c main_arg2) ∧ s.sem (barCell c) = 0)
    (hfin := fun c s' => by
      dsimp only [Tₙ]
      rw [bufs_eq, ins_eq]
      unfold Yk
      iintro ⟨⟨⟨Ho, Hx, Hg, Hb, -⟩, Hs⟩, HSI⟩
      icombine HSI Ho gives %ho
      icombine HSI Hx gives %hx
      icombine HSI Hg gives %hg
      icombine HSI Hb gives %hb
      icombine HSI Hs gives %hs
      imodintro
      isplitr
      · ipureintro
        exact ⟨⟨Buf.eq_of_forall_mem_univ ho, Buf.eq_of_forall_mem_univ hx, Buf.eq_of_forall_mem_univ hg, Buf.eq_of_forall_mem_univ hb⟩, by simpa using hs⟩
      iexact HSI)
    (hQ := fun s h hs => ⟨fun c => by
        obtain ⟨⟨ho, hx, hg, hb⟩, -⟩ := h c
        rw [V₂_v3] at ho
        rw [V₂_of_ne m c _ (by decide)] at hx hg hb
        exact ⟨ho, hx.trans (V_main_arg0 m c), hg.trans (V_main_arg1 m c), hb.trans (V_main_arg2 m c)⟩,
      sem_eq_zero hs fun c sm hsm => by
        obtain rfl := unscoped_eq sm hsm
        exact (h c).2⟩)

end Cert.KernelIdeal.Swap

end
-- ==== Proof.Frames.lean ====
/-
  Every program terminates, leaves its arguments as they were and every counter at zero: the kernel as printed and read at
  the extended reals, from any memory, and the reference.
-/
module

public import proofs.«01_k».proof.Defs
public import proofs.«01_k».proof.Proof.Launch
public import proofs.«01_k».proof.Proof.Plain.Launch
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import Idealize.ShloMosaic.Lib.Quiescent

@[expose] public section

noncomputable section

namespace Cert.Proof

open Idealize.ShloMosaic Idealize.SL.Sem

theorem frame_kernel : Cert.quiescent_Kernel := by
  intro m g _
  exact (θ_run Cert.Kernel.defs _ _).mono (fun _ h => ⟨fun c => (h.1 c).2, h.2⟩) (Cert.Kernel.Swap.run_main m g)

theorem frame_ideal : Cert.quiescent_KernelIdeal := by
  intro m g _
  exact (θ_run Cert.KernelIdeal.defs _ _).mono (fun _ h => ⟨fun c => (h.1 c).2, h.2⟩) (Cert.KernelIdeal.Swap.run_main m g)

theorem frame_ideal_pre [Cert.Pre_x_finite_KernelIdeal.Facts] : Cert.quiescent_KernelIdeal_pre_x_finite_KernelIdeal :=
  fun m g _ => frame_ideal m g trivial

theorem frame_reference : Cert.quiescent_ReferenceIdeal := by
  intro m g _
  exact (θ_run Cert.ReferenceIdeal.defs _ _).mono (fun r h => ⟨fun c => (h c).2, sem_eq_zero_of_no_sems (by decide) r.2⟩)
    (Cert.ReferenceIdeal.Value.run m g)

theorem frame_reference_pre [Cert.Pre_x_finite_ReferenceIdeal.Facts] : Cert.quiescent_ReferenceIdeal_pre_x_finite_ReferenceIdeal :=
  fun m g _ => frame_reference m g trivial

end Cert.Proof

end
-- ==== Proof.Equation.lean ====
module

public import Mathlib.Tactic.FieldSimp
public import Mathlib.Tactic.Linarith
public import Mathlib.Tactic.Ring
public import Mathlib.Algebra.BigOperators.Fin
public import Idealize.ShloMosaic.PureOps.Ideal

/-!
  The equation the certificate turns on, over the extended reals.

  The kernel takes the variance of a row as the mean of the squares less the square of the mean, and scales the row by
  the reciprocal root of it; the reference takes the mean of the squared deviations, and divides by the root. On a row
  of reals the two variances are one number, nothing negative, so that with the small constant added the root is a
  positive real; and the rest is a distribution of one real factor.
-/

@[expose] public section

namespace Cert.Proof

open Idealize.ShloMosaic

/-- The mean of the squares less the square of the mean is the mean of the squared deviations from the mean. -/
theorem variance_eq {n : ℕ} (hn : n ≠ 0) (a : Fin n → ℝ) :
    (∑ k, a k * a k) / n - (∑ k, a k) / n * ((∑ k, a k) / n)
      = (∑ k, (a k - (∑ l, a l) / n) * (a k - (∑ l, a l) / n)) / n := by
  have hn' : (n : ℝ) ≠ 0 := Nat.cast_ne_zero.mpr hn
  generalize hs : ∑ k, a k = s
  have h : ∑ k, (a k - s / n) * (a k - s / n) = (∑ k, a k * a k) - 2 * (s / n) * s + n * (s / n * (s / n)) := by
    calc ∑ k, (a k - s / n) * (a k - s / n)
        = ∑ k, (a k * a k - 2 * (s / n) * a k + s / n * (s / n)) := Finset.sum_congr rfl fun k _ => by ring
      _ = _ := by
        rw [Finset.sum_add_distrib, Finset.sum_sub_distrib, ← Finset.mul_sum, hs, Finset.sum_const, Finset.card_univ,
          Fintype.card_fin, nsmul_eq_mul]
  rw [h]
  field_simp
  ring

/-- A sum of reals, taken among the extended reals, is the sum of the reals. -/
theorem coe_sum {n : ℕ} (a : Fin n → ℝ) : ∑ k, (a k : EReal) = ((∑ k, a k : ℝ) : EReal) :=
  (map_sum (⟨⟨Real.toEReal, EReal.coe_zero⟩, EReal.coe_add⟩ : ℝ →+ EReal) a Finset.univ).symm

/-- A sum over an even number of places is the sum over the first half and the sum over the second. -/
theorem sum_halves {M : Type*} [AddCommMonoid M] {n : ℕ} (f : Fin (n + n) → M) :
    ∑ k, f k = (∑ k : Fin n, f ⟨k.val, by omega⟩) + ∑ k : Fin n, f ⟨n + k.val, by omega⟩ :=
  Fin.sum_univ_add f

/-- The division of a real by a real other than zero is the real quotient. -/
theorem div_real {y : ℝ} (h : y ≠ 0) (x : ℝ) : Ideal.div (x : EReal) (y : EReal) = ((x / y : ℝ) : EReal) := by
  rw [Ideal.div_coe h, ← EReal.coe_mul, mul_one_div]

/-- An extended real whose absolute value is below the infinity is a real. -/
theorem real_of_abs_lt {x : EReal} (h : max x (-x) < ⊤) : ∃ a : ℝ, x = (a : EReal) := by
  induction x with
  | bot => simp at h
  | top => simp at h
  | coe a => exact ⟨a, rfl⟩

/-- The normalized element. With a mean `u`, a variance `v ≥ 0` and a constant `e > 0`, scaling by the reciprocal root
    and shifting by the scaled mean, as the kernel does, is dividing the deviation by the root, as the reference does;
    the gain `g` and the bias `b` may be infinite. -/
theorem normalize_eq {x u v e : ℝ} (hv : 0 ≤ v) (he : 0 < e) (g b : EReal) :
    ((x : EReal) * Ideal.rsqrt ((v : EReal) + (e : EReal)) + (0 - (u : EReal)) * Ideal.rsqrt ((v : EReal) + (e : EReal))) * g + b
      = Ideal.div (g * ((x : EReal) - (u : EReal))) (Ideal.sqrt ((v : EReal) + (e : EReal))) + b := by
  have hp : 0 < v + e := by linarith
  have hr : Real.sqrt (v + e) ≠ 0 := (Real.sqrt_pos.mpr hp).ne'
  rw [← EReal.coe_add, Ideal.rsqrt_coe, Ideal.sqrt_coe, if_neg (not_lt.mpr hp.le), if_neg hp.ne', if_neg (not_lt.mpr hp.le),
    Ideal.div_coe hr, ← EReal.coe_zero, ← EReal.coe_sub, ← EReal.coe_sub, ← EReal.coe_mul, ← EReal.coe_mul, ← EReal.coe_add,
    mul_assoc, ← EReal.coe_mul, mul_comm]
  congr 3
  rw [one_div]
  ring

end Cert.Proof
-- ==== Proof.KernelValue.lean ====
/-
  What one device's block of the result holds, element by element, over the extended reals.

  The statistics of a block hold its rows' sums and sums of squares over the block's 1024 columns. An element of the
  result is the element of the block, scaled and shifted by what its row's sum and sum of squares over both devices'
  columns give: the mean, the variance as the mean of the squares less the square of the mean, and its reciprocal root.
-/
module

public import proofs.«01_k».proof.Proof.Spec
public import Idealize.ShloMosaic.Lib.Pointwise

@[expose] public section

noncomputable section

namespace Cert.KernelIdeal.Swap

open Cert.KernelIdeal Cert.KernelIdeal.Gen
open Idealize.ShloMosaic

/-- The element `x` of a row of sum `s` and sum of squares `q` over 2048 columns, normalized as the kernel does it, with
    gain `g` and bias `b`. -/
def normalized (s q x g b : EReal) : EReal :=
  (x * Ideal.rsqrt (Ideal.div q (Ideal.ofBits .f32 0x45000000#32)
        - Ideal.div s (Ideal.ofBits .f32 0x45000000#32) * Ideal.div s (Ideal.ofBits .f32 0x45000000#32)
        + Ideal.ofBits .f32 0x3727C5AC#32)
    + (0 - Ideal.div s (Ideal.ofBits .f32 0x45000000#32))
      * Ideal.rsqrt (Ideal.div q (Ideal.ofBits .f32 0x45000000#32)
        - Ideal.div s (Ideal.ofBits .f32 0x45000000#32) * Ideal.div s (Ideal.ofBits .f32 0x45000000#32)
        + Ideal.ofBits .f32 0x3727C5AC#32)) * g + b

/-- A chunk's row sums. -/
theorem pay1_apply (v : Vec Ideal S512x1024 .f32) (r : Fin 512) :
    k0_pay1 v (ix3 (n0 := 1) (n1 := 512) (n2 := 1) 0 r 0) = ∑ k : Fin 1024, v (ix2 r k) := by
  pointwise [k0_pay1]

/-- A chunk's row sums of squares. -/
theorem pay2_apply (v : Vec Ideal S512x1024 .f32) (r : Fin 512) :
    k0_pay2 v (ix3 (n0 := 1) (n1 := 512) (n2 := 1) 0 r 0) = ∑ k : Fin 1024, v (ix2 r k) * v (ix2 r k) := by
  pointwise [k0_pay2]

/-- A chunk of the result, from the two devices' sums and sums of squares. -/
theorem pay33_apply (os ps oq pq : Vec Ideal S1x512x1 .f32) (x : Vec Ideal S512x1024 .f32) (g b : Vec Ideal S1x1024 .f32)
    (r : Fin 512) (l : Fin 1024) :
    k0_pay33 os ps oq pq x g b (ix2 r l)
      = normalized (os (ix3 (n0 := 1) (n1 := 512) (n2 := 1) 0 r 0) + ps (ix3 (n0 := 1) (n1 := 512) (n2 := 1) 0 r 0))
          (oq (ix3 (n0 := 1) (n1 := 512) (n2 := 1) 0 r 0) + pq (ix3 (n0 := 1) (n1 := 512) (n2 := 1) 0 r 0))
          (x (ix2 r l)) (g (ix2 (n0 := 1) 0 l)) (b (ix2 (n0 := 1) 0 l)) := by
  pointwise [k0_pay33, normalized]

/-- The sum of row `i` of a block, and the sum of its squares. -/
def rowSum (X : Vec Ideal S4096x1024 .f32) (i : Fin 4096) : EReal := ∑ k : Fin 1024, X (ix2 i k)
@[inherit_doc rowSum]
def rowSquares (X : Vec Ideal S4096x1024 .f32) (i : Fin 4096) : EReal := ∑ k : Fin 1024, X (ix2 i k) * X (ix2 i k)

/-- Row `i`'s place in its chunk. -/
abbrev inChunk (i : Fin 4096) : Fin 512 := ⟨i.val % 512, Nat.mod_lt _ (by decide)⟩

/-- Row `i` of a block is row `i mod 512` of chunk `i / 512`. -/
theorem xChunk_apply (X : Vec Ideal S4096x1024 .f32) (i : Fin 4096) (l : Fin 1024) (h : i.val / 512 < 8) :
    xChunk X ⟨i.val / 512, h⟩ (ix2 (inChunk i) l) = X (ix2 i l) :=
  congrArg X (funext fun a => match a with
    | ⟨0, _⟩ => Fin.ext (by show 512 * (i.val / 512) + i.val % 512 = i.val; omega)
    | ⟨1, _⟩ => rfl)

/-- The column of the statistics that chunk `k`'s sums of squares, or sums, are in. -/
theorem col_stats (X : Vec Ideal S4096x1024 .f32) (k : Fin 8) (odd : Bool) (h : k.val / 4 < 2) (j : Fin 8)
    (hj : j.val = 2 * (k.val % 4) + odd.toNat) (r : Fin 512) :
    col (stats X) ⟨k.val / 4, h⟩ j (ix3 (n0 := 1) (n1 := 512) (n2 := 1) 0 r 0)
      = column X k odd (ix3 (n0 := 1) (n1 := 512) (n2 := 1) 0 r 0) := by
  obtain ⟨j, hlt⟩ := j
  subst hj
  unfold col stats
  have e1 : (⟨4 * (k.val / 4) + (2 * (k.val % 4) + odd.toNat) / 2, by cases odd <;> simp only [Bool.toNat_true, Bool.toNat_false] <;> omega⟩ : Fin 8) = k :=
    Fin.ext (by cases odd <;> simp only [Bool.toNat_true, Bool.toNat_false] <;> omega)
  have e2 : decide ((2 * (k.val % 4) + odd.toNat) % 2 = 1) = odd := by
    cases odd <;> simp <;> omega
  refine Eq.trans (b := column X ⟨4 * (k.val / 4) + (2 * (k.val % 4) + odd.toNat) / 2, _⟩
    (decide ((2 * (k.val % 4) + odd.toNat) % 2 = 1)) (ValueIdx.ix3 0 r 0)) rfl ?_
  rw [e1, e2, ix3_eq_valueIdx]

/-- The own part of a row's sum, as read back out of the statistics. -/
theorem col_sum (X : Vec Ideal S4096x1024 .f32) (i : Fin 4096) (hk : i.val / 512 < 8) (h : i.val / 512 / 4 < 2) (hj) :
    col (stats X) ⟨i.val / 512 / 4, h⟩ ⟨2 * (i.val / 512 % 4), hj⟩ (ix3 (n0 := 1) (n1 := 512) (n2 := 1) 0 (inChunk i) 0)
      = rowSum X i :=
  (col_stats X ⟨i.val / 512, hk⟩ false h _ rfl _).trans
    ((pay1_apply ..).trans (Finset.sum_congr rfl fun k _ => xChunk_apply X i k hk))

/-- The own part of a row's sum of squares, as read back out of the statistics. -/
theorem col_squares (X : Vec Ideal S4096x1024 .f32) (i : Fin 4096) (hk : i.val / 512 < 8) (h : i.val / 512 / 4 < 2) (hj) :
    col (stats X) ⟨i.val / 512 / 4, h⟩ ⟨2 * (i.val / 512 % 4) + 1, hj⟩ (ix3 (n0 := 1) (n1 := 512) (n2 := 1) 0 (inChunk i) 0)
      = rowSquares X i :=
  (col_stats X ⟨i.val / 512, hk⟩ true h _ rfl _).trans
    ((pay2_apply ..).trans (Finset.sum_congr rfl fun k _ => by rw [xChunk_apply X i k hk]))

/-- An element of a device's block of the result: the device's block of `x` is `X`, its partner's `P`. -/
theorem out_apply (X P : Vec Ideal S4096x1024 .f32) (G B : Vec Ideal S1x1024 .f32) (i : Fin 4096) (l : Fin 1024) :
    out X G B (stats X) (stats P) (ix2 i l)
      = normalized (rowSum X i + rowSum P i) (rowSquares X i + rowSquares P i) (X (ix2 i l)) (G (ix2 (n0 := 1) 0 l))
          (B (ix2 (n0 := 1) 0 l)) := by
  have hk : i.val / 512 < 8 := by omega
  refine Eq.trans (b := outChunk X G B (stats X) (stats P) ⟨i.val / 512, hk⟩ (ValueIdx.ix2 (inChunk i) l)) rfl ?_
  rw [← ix2_eq_valueIdx, outChunk, pay33_apply, xChunk_apply, col_sum X i hk, col_sum P i hk, col_squares X i hk, col_squares P i hk]

end Cert.KernelIdeal.Swap

end
-- ==== Proof.Consts.lean ====
/-
  The values of the constants both programs name: the number of columns, the small constant added to the variance, the
  infinity the precondition compares with; and the zero that the reference takes from its divisor.
-/
module

public import Idealize.ShloMosaic.Lib.Pointwise

@[expose] public section

namespace Cert.Proof

open Idealize.ShloMosaic

/-- The number of columns. -/
theorem columns_eq : Ideal.ofBits .f32 0x45000000#32 = ((2048 : ℝ) : EReal) := by
  simp [Ideal.ofBits, Ideal.ieee, -EReal.coe_mul]; norm_num

/-- The constant added to the variance, a positive real. -/
theorem epsilon_eq : ∃ e : ℝ, 0 < e ∧ Ideal.ofBits .f32 0x3727C5AC#32 = (e : EReal) := by
  refine ⟨(2 ^ 23 + 2606508) * 2 ^ (-40 : ℤ), by positivity, ?_⟩
  simp [Ideal.ofBits, Ideal.ieee, -EReal.coe_mul]; norm_num

/-- The infinity. -/
theorem infinity_eq : Ideal.ofBits .f32 0x7F800000#32 = ⊤ := by
  simp [Ideal.ofBits, Ideal.ieee]

/-- The integer zero is the real zero. -/
theorem sitofp_zero : FloatOps.sitofp (F := Ideal) .f32 (0#32) = (0 : EReal) := by
  show (((0#32 : BitVec 32).toInt : ℝ) : EReal) = 0
  simp

end Cert.Proof
-- ==== Proof.ReferenceValue.lean ====
/-
  What the reference computes, element by element, over the extended reals.

  Of each of the 8192 rows of `x` it takes the mean over the 2048 columns and the mean of the squared deviations from it
  (guarded by a comparison of the divisor with zero, which always holds), and divides the gain times the deviation by the
  root of the variance and a small constant.
-/
module

public import proofs.«01_k».proof.Proof.Gen.ReferenceIdeal.Run
public import proofs.«01_k».proof.Proof.Consts

@[expose] public section

noncomputable section

namespace Cert.ReferenceIdeal.Value

open Cert.ReferenceIdeal Cert.ReferenceIdeal.Gen
open Idealize.ShloMosaic Cert.Proof

/-- The rows' means. -/
def rowMean (x : FVec Ideal S8192x2048 .f32) : FVec Ideal S8192x1 .f32 :=
  Host.divf (broadcastInDim S8192x1 ![0] bcast_S8192_S8192x1_0
      (Host.reduceAdd x (constant S_ .f32 0x00000000#32) reducesTo_S8192x2048_S8192_d1 h_S_))
    (broadcastInDim S8192x1 ![] bcast_S_S8192x1 (constant S_ .f32 0x45000000#32))

/-- The deviations of the elements from their rows' means. -/
def deviation (x : FVec Ideal S8192x2048 .f32) : FVec Ideal S8192x2048 .f32 :=
  subf x (broadcastInDim S8192x2048 ![0, 1] bcast_S8192x1_S8192x2048_0_1 (rowMean x))

/-- The divisor of the variance: 2048 less a zero. -/
def divisor : FVec Ideal S_ .f32 := subf (constant S_ .f32 0x45000000#32) (sitofp .f32 (constantI S_ 32 0#32))

/-- The rows' variances. -/
def rowVariance (x : FVec Ideal S8192x2048 .f32) : FVec Ideal S8192x1 .f32 :=
  select (broadcastInDim S8192x1 ![] bcast_S_S8192x1 (cmpf .ogt divisor (constant S_ .f32 0x00000000#32)))
    (Host.divf (broadcastInDim S8192x1 ![0] bcast_S8192_S8192x1_0
        (Host.reduceAdd (mulf (deviation x) (deviation x)) (constant S_ .f32 0x00000000#32) reducesTo_S8192x2048_S8192_d1 h_S_))
      (broadcastInDim S8192x1 ![] bcast_S_S8192x1 divisor))
    (broadcastInDim S8192x1 ![] bcast_S_S8192x1 (id (constant S_ .f32 0x7FC00000#32)))

/-- The result. -/
def result (x : FVec Ideal S8192x2048 .f32) (g b : FVec Ideal S2048 .f32) : FVec Ideal S8192x2048 .f32 :=
  addf (Host.divf
      (mulf (broadcastInDim S8192x2048 ![0, 1] bcast_S1x2048_S8192x2048_0_1 (broadcastInDim S1x2048 ![1] bcast_S2048_S1x2048_1 g))
        (deviation x))
      (broadcastInDim S8192x2048 ![0, 1] bcast_S8192x1_S8192x2048_0_1
        (Host.sqrt (addf (rowVariance x) (broadcastInDim S8192x1 ![] bcast_S_S8192x1 (constant S_ .f32 0x3727C5AC#32))))))
    (broadcastInDim S8192x2048 ![0, 1] bcast_S1x2048_S8192x2048_0_1 (broadcastInDim S1x2048 ![1] bcast_S2048_S1x2048_1 b))

theorem rowMean_apply (x : FVec Ideal S8192x2048 .f32) (i : Fin 8192) :
    rowMean x (ix2 (n1 := 1) i 0) = Ideal.div (∑ k : Fin 2048, x (ix2 i k)) (Ideal.ofBits .f32 0x45000000#32) := by
  pointwise [rowMean]

theorem deviation_apply (x : FVec Ideal S8192x2048 .f32) (i : Fin 8192) (l : Fin 2048) :
    deviation x (ix2 i l) = x (ix2 i l) - rowMean x (ix2 (n1 := 1) i 0) := by
  pointwise [deviation]

theorem rowVariance_apply (x : FVec Ideal S8192x2048 .f32) (i : Fin 8192) :
    rowVariance x (ix2 (n1 := 1) i 0)
      = Ideal.div (∑ k : Fin 2048, deviation x (ix2 i k) * deviation x (ix2 i k)) (Ideal.ofBits .f32 0x45000000#32) := by
  pointwise [rowVariance, divisor]
  rw [sitofp_zero, columns_eq, sub_zero, if_pos (by exact_mod_cast (by norm_num : (0 : ℝ) < 2048))]

theorem result_apply (x : FVec Ideal S8192x2048 .f32) (g b : FVec Ideal S2048 .f32) (i : Fin 8192) (l : Fin 2048) :
    result x g b (ix2 i l)
      = Ideal.div (g (ix1 l) * deviation x (ix2 i l))
          (Ideal.sqrt (rowVariance x (ix2 (n1 := 1) i 0) + Ideal.ofBits .f32 0x3727C5AC#32)) + b (ix1 l) := by
  pointwise [result]

end Cert.ReferenceIdeal.Value

end
-- ==== Proof.Rows.lean ====
/-
  An element normalized as the kernel does it is the element the reference computes, on a row of reals.
-/
module

public import proofs.«01_k».proof.Proof.Equation
public import proofs.«01_k».proof.Proof.KernelValue
public import proofs.«01_k».proof.Proof.ReferenceValue

@[expose] public section

noncomputable section

namespace Cert.Proof

open Idealize.ShloMosaic
open Cert.KernelIdeal.Swap (normalized)
open Cert.ReferenceIdeal.Value (rowMean deviation rowVariance result rowMean_apply deviation_apply rowVariance_apply result_apply)

/-- On a row of reals `a` the reference's element is the kernel's of the row's sum and sum of squares. -/
theorem normalized_eq_result (x : FVec Ideal Cert.ReferenceIdeal.S8192x2048 .f32) (g b : FVec Ideal Cert.ReferenceIdeal.S2048 .f32)
    (i : Fin 8192) (l : Fin 2048) (a : Fin 2048 → ℝ) (ha : ∀ k, x (ix2 i k) = (a k : EReal)) :
    normalized (∑ k : Fin 2048, x (ix2 i k)) (∑ k : Fin 2048, x (ix2 i k) * x (ix2 i k)) (x (ix2 i l)) (g (ix1 l)) (b (ix1 l))
      = result x g b (ix2 i l) := by
  obtain ⟨e, he, hE⟩ := epsilon_eq
  have h0 : (2048 : ℝ) ≠ 0 := by norm_num
  have hs : ∑ k, x (ix2 i k) = ((∑ k, a k : ℝ) : EReal) := by simp only [ha]; exact coe_sum a
  have hq : ∑ k, x (ix2 i k) * x (ix2 i k) = ((∑ k, a k * a k : ℝ) : EReal) := by
    simp only [ha, ← EReal.coe_mul]; exact coe_sum _
  have hm : rowMean x (ix2 (n1 := 1) i 0) = (((∑ k, a k) / 2048 : ℝ) : EReal) := by
    rw [rowMean_apply, hs, columns_eq, div_real h0]
  have hd : ∀ k, deviation x (ix2 i k) = ((a k - (∑ k, a k) / 2048 : ℝ) : EReal) := fun k => by
    rw [deviation_apply, ha, hm, ← EReal.coe_sub]
  have hv : rowVariance x (ix2 (n1 := 1) i 0)
      = (((∑ k, (a k - (∑ k, a k) / 2048) * (a k - (∑ k, a k) / 2048)) / 2048 : ℝ) : EReal) := by
    rw [rowVariance_apply, columns_eq]
    simp only [hd, ← EReal.coe_mul]
    rw [coe_sum, div_real h0]
  have hvar := variance_eq (n := 2048) (by norm_num) a
  push_cast at hvar
  rw [result_apply, hv, hE, hd l, normalized, hs, hq, columns_eq, hE, div_real h0, div_real h0, ← EReal.coe_mul, ← EReal.coe_sub, hvar, ha l,
    normalize_eq (div_nonneg (Finset.sum_nonneg fun k _ => mul_self_nonneg _) (by norm_num)) he, ← EReal.coe_sub]

end Cert.Proof

end
-- ==== Proof.Blocks.lean ====
/-
  What part of the whole arrays each device holds: device `c` of the two-by-two mesh holds the rows from `4096 (c / 2)` and
  the columns from `1024 (c mod 2)`. Its partner holds the other columns of the same rows, so the two parts of a row's sum
  make the whole row's; and a finite block of `x` on every device is a finite `x`.
-/
module

public import proofs.«01_k».proof.Defs
public import proofs.«01_k».proof.Proof.Equation
public import proofs.«01_k».proof.Proof.Consts
public import proofs.«01_k».proof.Proof.KernelValue
public import proofs.«01_k».proof.Proof.Region

@[expose] public section

noncomputable section

namespace Cert.Proof

open Idealize.ShloMosaic Idealize.ShloMosaic.TcCoe
open Cert.KernelIdeal (nD τ sig main_arg0 main_arg1 main_arg2 main_v1 main_v2 S4096x1024 S1x1024)
open Cert.KernelIdeal.Swap (peer rowSum rowSquares gIn bIn)

/-- The whole row that row `i` of device `c`'s block is in, and the whole column. -/
def wholeRow (c : Dev nD) (i : Fin 4096) : Fin 8192 := ⟨c.val / 2 * 4096 + i.val, by have : c.val < 4 := c.isLt; omega⟩
@[inherit_doc wholeRow]
def wholeCol (c : Dev nD) (l : Fin 1024) : Fin 2048 := ⟨c.val % 2 * 1024 + l.val, by omega⟩

/-- Device `c`'s block of a whole array of 8192 rows and 2048 columns. -/
abbrev blockOf (c : Dev nD) (x : (⟨2, ![8192, 2048]⟩ : Shape).Idx → EReal) : (⟨2, ![4096, 1024]⟩ : Shape).Idx → EReal :=
  Layout.blockN ⟨2, ![4096, 1024]⟩ ⟨2, ![8192, 2048]⟩ (Layout.meshBlock [2, 2] ![[0], [1]] c) x

/-- Device `c`'s part of a whole row of 2048 columns. -/
abbrev partOf (c : Dev nD) (g : (⟨1, ![2048]⟩ : Shape).Idx → EReal) : (⟨1, ![1024]⟩ : Shape).Idx → EReal :=
  Layout.blockN ⟨1, ![1024]⟩ ⟨1, ![2048]⟩ (Layout.meshBlock [2, 2] ![[1]] c) g

theorem blockOf_apply (c : Dev nD) (x : (⟨2, ![8192, 2048]⟩ : Shape).Idx → EReal) (i : Fin 4096) (l : Fin 1024) :
    blockOf c x (ix2 i l) = x (ix2 (wholeRow c i) (wholeCol c l)) := by
  have hc : c.val < 4 := c.isLt
  refine congrArg x (funext fun a => Fin.ext ?_)
  match a with
  | ⟨0, _⟩ =>
    show (c.val / 2 % 2 * 1 + 0) * 4096 + i.val = c.val / 2 * 4096 + i.val
    omega
  | ⟨1, _⟩ =>
    show (c.val / 1 % 2 * 1 + 0) * 1024 + l.val = c.val % 2 * 1024 + l.val
    omega

theorem partOf_apply (c : Dev nD) (g : (⟨1, ![2048]⟩ : Shape).Idx → EReal) (l : Fin 1024) :
    partOf c g (ix1 l) = g (ix1 (wholeCol c l)) := by
  refine congrArg g (funext fun a => Fin.ext ?_)
  match a with
  | ⟨0, _⟩ =>
    show (c.val / 1 % 2 * 1 + 0) * 1024 + l.val = c.val % 2 * 1024 + l.val
    omega

/-- The partner holds the same rows. -/
theorem wholeRow_peer (c : Dev nD) (i : Fin 4096) : wholeRow (peer c) i = wholeRow c i := by
  have hc : c.val < 4 := c.isLt
  refine Fin.ext ?_
  show ((2 * (c.val / 2) + 1) - c.val % 2) / 2 * 4096 + i.val = c.val / 2 * 4096 + i.val
  omega

/-- The sum over a device's columns and its partner's is the sum over all. -/
theorem sum_pair (c : Dev nD) (f : Fin 2048 → EReal) :
    ∑ k : Fin 1024, f (wholeCol c k) + ∑ k : Fin 1024, f (wholeCol (peer c) k) = ∑ k, f k := by
  have half0 : ∀ d : Dev nD, d.val % 2 = 0 → ∀ k, wholeCol d k = ⟨k.val, by omega⟩ := fun d h k =>
    Fin.ext (by show d.val % 2 * 1024 + k.val = k.val; omega)
  have half1 : ∀ d : Dev nD, d.val % 2 = 1 → ∀ k, wholeCol d k = ⟨1024 + k.val, by omega⟩ := fun d h k =>
    Fin.ext (by show d.val % 2 * 1024 + k.val = 1024 + k.val; omega)
  have hp : (peer c).val = (2 * (c.val / 2) + 1) - c.val % 2 := rfl
  rw [sum_halves (n := 1024) f]
  rcases Nat.mod_two_eq_zero_or_one c.val with h | h
  · simp only [half0 c h, half1 (peer c) (by omega)]
  · simp only [half1 c h, half0 (peer c) (by omega)]
    exact add_comm _ _

/-- The two devices' parts of a row's sum make the whole row's sum. -/
theorem rowSum_pair (c : Dev nD) (x : (⟨2, ![8192, 2048]⟩ : Shape).Idx → EReal) (i : Fin 4096) :
    rowSum (blockOf c x) i + rowSum (blockOf (peer c) x) i = ∑ k : Fin 2048, x (ix2 (wholeRow c i) k) := by
  simp only [rowSum, blockOf_apply, wholeRow_peer]
  exact sum_pair c fun k => x (ix2 (wholeRow c i) k)

/-- The two devices' parts of a row's sum of squares make the whole row's. -/
theorem rowSquares_pair (c : Dev nD) (x : (⟨2, ![8192, 2048]⟩ : Shape).Idx → EReal) (i : Fin 4096) :
    rowSquares (blockOf c x) i + rowSquares (blockOf (peer c) x) i
      = ∑ k : Fin 2048, x (ix2 (wholeRow c i) k) * x (ix2 (wholeRow c i) k) := by
  simp only [rowSquares, blockOf_apply, wholeRow_peer]
  exact sum_pair c fun k => x (ix2 (wholeRow c i) k) * x (ix2 (wholeRow c i) k)

/-- Where the precondition holds of a block, its elements are reals. -/
theorem real_of_finite [Cert.Pre_x_finite_KernelIdeal.Facts] (x : FVec Ideal S4096x1024 .f32)
    (g b : FVec Ideal ⟨1, ![1024]⟩ .f32) (h : Cert.Pre_x_finite_KernelIdeal.fn (F := Ideal) x g b = fun _ => 1#1)
    (i : Fin 4096) (l : Fin 1024) : ∃ a : ℝ, x (ix2 i l) = (a : EReal) := by
  have h' : BitVec.ofBool (decide (max (x (ix2 i l)) (-(x (ix2 i l))) < Ideal.ofBits .f32 0x7F800000#32)) = 1#1 := congrFun h (ix2 i l)
  rw [infinity_eq] at h'
  have hlt : max (x (ix2 i l)) (-(x (ix2 i l))) < ⊤ := by
    by_contra hn
    rw [decide_eq_false hn] at h'
    exact absurd h' (by decide)
  exact real_of_abs_lt hlt

/-- The device and the place in its block that hold a place of the whole. -/
theorem exists_place (i : Fin 8192) (l : Fin 2048) : ∃ (c : Dev nD) (i' : Fin 4096) (l' : Fin 1024), wholeRow c i' = i ∧ wholeCol c l' = l :=
  ⟨⟨2 * (i.val / 4096) + l.val / 1024, by show _ < 4; omega⟩, ⟨i.val % 4096, by omega⟩, ⟨l.val % 1024, by omega⟩,
    Fin.ext (by show (2 * (i.val / 4096) + l.val / 1024) / 2 * 4096 + i.val % 4096 = i.val; omega),
    Fin.ext (by show (2 * (i.val / 4096) + l.val / 1024) % 2 * 1024 + l.val % 1024 = l.val; omega)⟩

/-- The rows of gamma and beta as the kernel finds them are the device's parts of gamma and beta. -/
theorem gIn_apply (m : (ℓ : Loc nD τ sig) → Buf (Elt Ideal) ℓ) (c : Dev nD) (l : Fin 1024) :
    gIn m c (ix2 (n0 := 1) 0 l) = (m ((c.tc : Thread nD τ).loc main_arg1) : Vec Ideal ⟨1, ![1024]⟩ .f32) (ix1 l) := by
  have h : gIn m c = shapeCast S1x1024 (m ((c.tc : Thread nD τ).loc main_arg1) : Vec Ideal ⟨1, ![1024]⟩ .f32)
      Cert.KernelIdeal.Gen.shapeCasts_S1024_S1x1024 := by
    show StableHlo.after Cert.KernelIdeal.Gen.hostOps0 _ _ = _
    after_results_simp
    rfl
  rw [h]
  pointwise
@[inherit_doc gIn_apply]
theorem bIn_apply (m : (ℓ : Loc nD τ sig) → Buf (Elt Ideal) ℓ) (c : Dev nD) (l : Fin 1024) :
    bIn m c (ix2 (n0 := 1) 0 l) = (m ((c.tc : Thread nD τ).loc main_arg2) : Vec Ideal ⟨1, ![1024]⟩ .f32) (ix1 l) := by
  have h : bIn m c = shapeCast S1x1024 (m ((c.tc : Thread nD τ).loc main_arg2) : Vec Ideal ⟨1, ![1024]⟩ .f32)
      Cert.KernelIdeal.Gen.shapeCasts_S1024_S1x1024 := by
    show StableHlo.after Cert.KernelIdeal.Gen.hostOps0 _ _ = _
    after_results_simp
    rfl
  rw [h]
  pointwise

end Cert.Proof

end
-- ==== Proof.Algebraic.lean ====
/-
  Over the extended reals the kernel's devices end holding their blocks of what the reference computes.
-/
module

public import proofs.«01_k».proof.Proof.Rows
public import proofs.«01_k».proof.Proof.Blocks
public import proofs.«01_k».proof.Proof.Launch
public import proofs.«01_k».proof.Proof.Gen.KernelIdeal
public import proofs.«01_k».proof.Proof.Gen.ReferenceIdeal

@[expose] public section

noncomputable section

namespace Cert.Proof

open Idealize.ShloMosaic Idealize.ShloMosaic.TcCoe Idealize.SL.Sem
open Cert.KernelIdeal (nD τ sig main_arg0 main_arg1 main_arg2)
open Cert.KernelIdeal.Swap (outIn xIn stIn out_apply)
open Cert.ReferenceIdeal.Value (result)

/-- The array a device computes is its block of the reference's result, where the arguments are its parts of the whole
    arguments and the whole `x` holds reals. -/
theorem outIn_eq (m : (ℓ : Loc nD τ sig) → Buf (Elt Ideal) ℓ) (x : FVec Ideal ⟨2, ![8192, 2048]⟩ .f32)
    (g b : FVec Ideal ⟨1, ![2048]⟩ .f32) (hx : ∀ c : Dev nD, m ((c.tc : Thread nD τ).loc main_arg0) = blockOf c x)
    (hg : ∀ c : Dev nD, m ((c.tc : Thread nD τ).loc main_arg1) = partOf c g)
    (hb : ∀ c : Dev nD, m ((c.tc : Thread nD τ).loc main_arg2) = partOf c b)
    (hreal : ∀ i k, ∃ a : ℝ, x (ix2 i k) = (a : EReal)) (c : Dev nD) :
    outIn m c = blockOf c (result x g b) := by
  have hX : ∀ d, xIn m d = blockOf d x := fun d => (Cert.KernelIdeal.Gen.V_main_arg0 m d).trans (hx d)
  suffices h : ∀ (i : Fin 4096) (l : Fin 1024), outIn m c (ix2 i l) = blockOf c (result x g b) (ix2 i l) from
    funext fun j => by rw [eq_ix2 j]; exact h (j 0) (j 1)
  intro i l
  choose a ha using hreal (wholeRow c i)
  rw [outIn, stIn, stIn, out_apply, hX, hX, rowSum_pair, rowSquares_pair, gIn_apply, bIn_apply, hg, hb, partOf_apply, partOf_apply,
    blockOf_apply, blockOf_apply]
  exact normalized_eq_result x g b _ _ a ha

theorem algebraic [Cert.Pre_x_finite_KernelIdeal.Facts] : Cert.algebraic_KernelIdeal_ReferenceIdeal_pre_x_finite_KernelIdeal := by
  intro m g m' g' hpre hargs
  refine ⟨result (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1))
    (m' (((0 : Dev Cert.ReferenceIdeal.nD).tc : Thread Cert.ReferenceIdeal.nD Cert.ReferenceIdeal.τ).loc Cert.ReferenceIdeal.main_arg2)), ?_, ?_⟩
  · refine (θ_run Cert.KernelIdeal.defs _ _).mono (fun r h c => ⟨(h.1 c).1.trans ?_, (h.1 c).2⟩) (Cert.KernelIdeal.Swap.run_main m g)
    refine outIn_eq m _ _ _ (fun d => (hargs d).1) (fun d => (hargs d).2.1) (fun d => (hargs d).2.2) (fun i k => ?_) c
    obtain ⟨d, i', k', rfl, rfl⟩ := exists_place i k
    obtain ⟨a, ha⟩ := real_of_finite _ _ _ (hpre d) i' k'
    rw [(hargs d).1] at ha
    exact ⟨a, (blockOf_apply d _ i' k').symm.trans ha⟩
  · exact (θ_run Cert.ReferenceIdeal.defs _ _).mono (fun r h => h 0) (Cert.ReferenceIdeal.Value.run m' g')

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- Every claim of the certificate. -/
theorem claim : Cert.Claim :=
  have : Cert.Pre_x_finite_KernelIdeal.Facts := ⟨by decide⟩
  have : Cert.Pre_x_finite_ReferenceIdeal.Facts := ⟨by decide⟩
  ⟨Cert.Kernel.Gen.facts, Cert.KernelIdeal.Gen.facts, Cert.ReferenceIdeal.Gen.facts, inferInstance, inferInstance,
    frame_kernel, frame_ideal, frame_ideal_pre, frame_reference, frame_reference_pre, trivial, algebraic⟩

end Cert.Proof

end
